-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_4)) (v1 : (c : Dev Cert.KernelIdeal.nD) → Buf (Elt Ideal) ((c.tc : Thread Cert.KernelIdeal.nD Cert.KernelIdeal.τ).loc Cert.KernelIdeal.main_v0_2)) (v2 : (c : Dev Cert.KernelIdeal.nD) → Buf (Elt Ideal) ((c.tc : Thread Cert.KernelIdeal.nD Cert.KernelIdeal.τ).loc Cert.KernelIdeal.main_v0_5)) (v3 : (c : Dev Cert.KernelIdeal.nD) → Buf (Elt Ideal) ((c.tc : Thread Cert.KernelIdeal.nD Cert.KernelIdeal.τ).loc Cert.KernelIdeal.main_v0_1)) (v4 : (c : Dev Cert.KernelIdeal.nD) → Buf (Elt Ideal) ((c.tc : Thread Cert.KernelIdeal.nD Cert.KernelIdeal.τ).loc Cert.KernelIdeal.main_v0_0)) (v5 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_4) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_v0_5) = v2 c
          ∧ r.2.mem ((c.tc : Thread Cert.KernelIdeal.nD Cert.KernelIdeal.τ).loc Cert.KernelIdeal.main_v0_1) = v3 c
          ∧ r.2.mem ((c.tc : Thread Cert.KernelIdeal.nD Cert.KernelIdeal.τ).loc Cert.KernelIdeal.main_v0_0) = v4 c
          ∧ r.2.mem ((c.tc : Thread Cert.KernelIdeal.nD Cert.KernelIdeal.τ).loc Cert.KernelIdeal.main_v0_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v45) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x32x2048 : Shape := ⟨3, ![32, 32, 2048]⟩
abbrev S1024x32 : Shape := ⟨2, ![1024, 32]⟩
abbrev S_ : Shape := ⟨0, ![]⟩

class Facts : Prop where
  bcast_S_S32x32x2048 : S_.BroadcastsInDim S32x32x2048 (![] : Fin 0 → Fin S32x32x2048.rank)
  reducesTo_S32x32x2048_S_d0_1_2 : S32x32x2048.ReducesTo [0, 1, 2] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S32x32x2048 .f32) (main_arg1 : FVec F S1024x32 .f32) : IVec S_ 1 :=
  let main_v0 : FVec F S32x32x2048 .f32 := Host.absf main_arg0
  let main_cst : FVec F S_ .f32 := constant S_ .f32 0x7F800000#32
  let main_v1 : FVec F S32x32x2048 .f32 := broadcastInDim S32x32x2048 ![] bcast_S_S32x32x2048 main_cst
  let main_v2 : IVec S32x32x2048 1 := cmpf .olt main_v0 main_v1
  let main_c : IVec S_ 1 := constantI S_ 1 1#1
  let main_v3 : IVec S_ 1 := (fun x v => Host.reduce IntOp.andi x v reducesTo_S32x32x2048_S_d0_1_2 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  main_v8
-- ==== Kernel.lean ====
abbrev S32x32x2048 : Shape := ⟨3, ![32, 32, 2048]⟩
abbrev S1024x32 : Shape := ⟨2, ![1024, 32]⟩
abbrev S65536x1024 : Shape := ⟨2, ![65536, 1024]⟩
abbrev S65536x1 : Shape := ⟨2, ![65536, 1]⟩
abbrev S1x1 : Shape := ⟨2, ![1, 1]⟩
abbrev S32x8x2048 : Shape := ⟨3, ![32, 8, 2048]⟩
abbrev S2048x1024 : Shape := ⟨2, ![2048, 1024]⟩
abbrev S2048x1 : Shape := ⟨2, ![2048, 1]⟩
abbrev S1x1024 : Shape := ⟨2, ![1, 1024]⟩
abbrev S32x1x2048 : Shape := ⟨3, ![32, 1, 2048]⟩
abbrev S32x2048 : Shape := ⟨2, ![32, 2048]⟩
abbrev S2048 : Shape := ⟨1, ![2048]⟩
abbrev S1024 : Shape := ⟨1, ![1024]⟩
abbrev S1x2048 : Shape := ⟨2, ![1, 2048]⟩
abbrev S1x2048x1 : Shape := ⟨3, ![1, 2048, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S32x32x2048, .f32⟩
  | .hbm, ⟨1, _⟩ => ⟨S1024x32, .f32⟩
  | .hbm, ⟨2, _⟩ => ⟨S65536x1024, .f32⟩
  | .hbm, ⟨3, _⟩ => ⟨S65536x1024, .f32⟩
  | .hbm, ⟨4, _⟩ => ⟨S32x32x2048, .f32⟩
  | .hbm, ⟨5, _⟩ => ⟨S65536x1, .i32⟩
  | .hbm, ⟨6, _⟩ => ⟨S1x1, .f32⟩
  | .hbm, ⟨7, _⟩ => ⟨S1x1, .f32⟩
  | .local _ .vmem, ⟨0, _⟩ => ⟨S32x8x2048, .f32⟩
  | .local _ .vmem, ⟨1, _⟩ => ⟨S32x8x2048, .f32⟩
  | .local _ .vmem, ⟨2, _⟩ => ⟨S1024x32, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S32x8x2048, .f32⟩
  | .local _ .vmem, ⟨8, _⟩ => ⟨S32x8x2048, .f32⟩
  | .local _ .vmem, ⟨9, _⟩ => ⟨S2048x1, .i32⟩
  | .local _ .vmem, ⟨10, _⟩ => ⟨S2048x1, .i32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0 : Index := 0#32
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : Index := Scalar.indexCast v9
  let c0_3 : Index := 0#32
  ![0, v10.toNat, 0]
def k0_cond3 (i : grid0.Coords) : BitVec 1 :=
  let arg0 : BitVec 32 := BitVec.ofNat 32 (i 0).val
  let c31_i32 : BitVec 32 := 31#32
  let v62 : BitVec 1 := Scalar.cmpi .eq arg0 c31_i32
  let v63 : BitVec 32 := Scalar.extui v62
  let c0_i32_27 : BitVec 32 := 0#32
  let v64 : BitVec 1 := Scalar.cmpi .ne v63 c0_i32_27
  v64

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32x32x2048 : Shape := ⟨3, ![32, 32, 2048]⟩
abbrev S1024x32 : Shape := ⟨2, ![1024, 32]⟩
abbrev S32x2048x32 : Shape := ⟨3, ![32, 2048, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S32x1024 : Shape := ⟨2, ![32, 1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S1024x32, .f32⟩
  | .hbm, ⟨2, _⟩ => ⟨S32x2048x32, .f32⟩
  | .hbm, ⟨3, _⟩ => ⟨S65536x32, .f32⟩
  | .hbm, ⟨4, _⟩ => ⟨S65536x32, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S1024x32, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S32x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S65536x1, .i32⟩
  | .hbm, ⟨27, _⟩ => ⟨S1x1024, .i32⟩
  | .hbm, ⟨28, _⟩ => ⟨S65536x1024, .i32⟩
  | .hbm, ⟨29, _⟩ => ⟨S65536x1024, .i32⟩
  | .hbm, ⟨30, _⟩ => ⟨S65536x1024, .i1⟩
  | .hbm, ⟨31, _⟩ => ⟨S65536x1024, .f32⟩
  | .hbm, ⟨32, _⟩ => ⟨S65536x32, .f32⟩
  | .hbm, ⟨33, _⟩ => ⟨S32x2048x32, .f32⟩
  | .hbm, ⟨34, _⟩ => ⟨S32x2048x32, .f32⟩
  | .hbm, ⟨35, _⟩ => ⟨S32x2048x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32x2048x32, .f32⟩
  | .hbm, ⟨41, _⟩ => ⟨S32x2048x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32x2048x32, .f32⟩
  | .hbm, ⟨50, _⟩ => ⟨S32x2048x32, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1x1, .f32⟩
  | .hbm, ⟨66, _⟩ => ⟨S32x32x2048, .f32⟩
  | .hbm, ⟨67, _⟩ => ⟨S1x1, .f32⟩
  | .hbm, ⟨68, _⟩ => ⟨S65536x1, .i32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.Body.lean ====
/-
  The kernel body at one grid point, run once: what it leaves in each window and in the two carried scratch buffers, as functions of
  what it found there.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit.Basic
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes -/

/-- The one row of an eight-row block that the point's body reads of its inputs and writes of its quantised rows. -/
abbrev rowR (i : grid0.Coords) : Rect S32x8x2048 := Rect.unit (s := S32x8x2048) (k0_off1 i) S32x1x2048.size (k0_off1_inb i)

/-- The point's row of an inputs block. -/
abbrev rowOf (i : grid0.Coords) (X : Vec F S32x8x2048 .f32) : Vec F S32x1x2048 .f32 := View.ld X (rowR i)

/-- The point is the first one, as the body tests it. -/
abbrev isFirst (i : grid0.Coords) : Prop :=
  Scalar.cmpi .ne (Scalar.extui (Scalar.cmpi .eq (BitVec.ofNat 32 (i 0).val) 0#32) : BitVec 32) 0#32 = 1#1
/-- The point is not the first one, as the body tests it. -/
abbrev isLater (i : grid0.Coords) : Prop :=
  Scalar.cmpi .ne (Scalar.extui (Scalar.cmpi .ne (BitVec.ofNat 32 (i 0).val) 0#32) : BitVec 32) 0#32 = 1#1

/-- The carried sum of row minima after a point. -/
def accNext (i : grid0.Coords) (x : Vec F S32x1x2048 .f32) (e : Vec F S1024x32 .f32) (A : Vec F S1x1 .f32) : Vec F S1x1 .f32 :=
  if (i 0).val = 0 then k0_pay6 (k0_pay13 x e) else k0_pay8 (k0_pay13 x e) A
/-- The carried histogram of codes after a point. -/
def cntNext (i : grid0.Coords) (x : Vec F S32x1x2048 .f32) (e : Vec F S1024x32 .f32) (A : Vec F S1x1024 .f32) : Vec F S1x1024 .f32 :=
  if (i 0).val = 0 then k0_pay7 (F := F) (k0_pay15 x e) else k0_pay9 (k0_pay15 x e) A
/-- The loss window after a point: stored at the last one only. -/
def lossNext (i : grid0.Coords) (A Y : Vec F S1x1 .f32) : Vec F S1x1 .f32 := if (i 0).val = 31 then k0_pay10 A else Y
/-- The perplexity window after a point: stored at the last one only. -/
def perpNext (i : grid0.Coords) (A : Vec F S1x1024 .f32) (Y : Vec F S1x1 .f32) : Vec F S1x1 .f32 := if (i 0).val = 31 then k0_pay11 A else Y

theorem isFirst_iff : ∀ i : grid0.Coords, isFirst i ↔ (i 0).val = 0 := by
  intro i
  have h : ∀ n : Fin 32, (Scalar.cmpi .ne (Scalar.extui (Scalar.cmpi .eq (BitVec.ofNat 32 n.val) 0#32) : BitVec 32) 0#32 = 1#1) ↔ n.val = 0 := by decide
  exact h (i 0)
theorem isLater_iff : ∀ i : grid0.Coords, isLater i ↔ (i 0).val ≠ 0 := by
  intro i
  have h : ∀ n : Fin 32, (Scalar.cmpi .ne (Scalar.extui (Scalar.cmpi .ne (BitVec.ofNat 32 n.val) 0#32) : BitVec 32) 0#32 = 1#1) ↔ n.val ≠ 0 := by decide
  exact h (i 0)
theorem isLast_iff : ∀ i : grid0.Coords, k0_cond3 i = 1#1 ↔ (i 0).val = 31 := by
  intro i
  have h : ∀ n : Fin 32, (Scalar.cmpi .ne (Scalar.extui (Scalar.cmpi .eq (BitVec.ofNat 32 n.val) 31#32) : BitVec 32) 0#32 = 1#1) ↔ n.val = 31 := by decide
  exact h (i 0)

theorem z2 : (![0, 0] : Fin 2 → Nat) = fun _ => 0 := funext fun a => by fin_cases a <;> rfl

/-- A store through a rectangle leaves the earlier contents with the payload put over the rectangle. -/
theorem read_writes_overlay {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = r.overlay (v.read (Elt F) f) w := by
  funext y
  by_cases hy : y ∈ r.set
  · obtain ⟨x, -, rfl⟩ := Finset.mem_map.mp (r.map_emb_univ ▸ hy)
    rw [View.read_writes_cons_emb, Rect.overlay_emb]
  · rw [View.read_writes_cons_miss _ _ _ _ _ hy, Rect.overlay_of_not_mem _ _ _ hy]; rfl

/-- The body's triple, for any continuation: from the windows and the scratch at named contents, the kernel runs to its return and
    leaves the inputs as they were and every other buffer at what the point computes. -/
theorem kernelRun (c : Dev nD) (i : grid0.Coords)
    (arg1 : Memref sig .tc .vmem S32x8x2048 .f32) (harg1 : arg1.IsWhole) (arg2 : Memref sig .tc .vmem S1024x32 .f32) (harg2 : arg2.IsWhole)
    (arg3 : Memref sig .tc .vmem S2048x1024 .f32) (harg3 : arg3.IsWhole) (arg4 : Memref sig .tc .vmem S2048x1024 .f32) (harg4 : arg4.IsWhole)
    (arg5 : Memref sig .tc .vmem S32x8x2048 .f32) (harg5 : arg5.IsWhole) (arg6 : Memref sig .tc .vmem S2048x1 .i32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole) (arg10 : Memref sig .tc .vmem S1x1024 .f32) (harg10 : arg10.IsWhole)
    (X1 : Vec F S32x8x2048 .f32) (X2 : Vec F S1024x32 .f32) (Y5 : Vec F S32x8x2048 .f32) (Y7 Y8 A9 : Vec F S1x1 .f32) (A10 : Vec F S1x1024 .f32)
    (K : PUnit → sProp 𝕄) :
    iprop(owns (c : Thread nD τ) arg1 fullShare X1 ∗ owns (c : Thread nD τ) arg2 fullShare X2
        ∗ (∃ d, owns (c : Thread nD τ) arg3 fullShare d) ∗ (∃ d, owns (c : Thread nD τ) arg4 fullShare d)
        ∗ owns (c : Thread nD τ) arg5 fullShare Y5 ∗ (∃ d, owns (c : Thread nD τ) arg6 fullShare d)
        ∗ owns (c : Thread nD τ) arg7 fullShare Y7 ∗ owns (c : Thread nD τ) arg8 fullShare Y8
        ∗ owns (c : Thread nD τ) arg9 fullShare A9 ∗ owns (c : Thread nD τ) arg10 fullShare A10
        ∗ (iprop(owns (c : Thread nD τ) arg1 fullShare X1 ∗ owns (c : Thread nD τ) arg2 fullShare X2
            ∗ owns (c : Thread nD τ) arg3 fullShare (k0_pay12 (rowOf i X1) X2)
            ∗ owns (c : Thread nD τ) arg4 fullShare (k0_pay1 (F := F) (k0_pay15 (rowOf i X1) X2))
            ∗ owns (c : Thread nD τ) arg5 fullShare ((rowR i).overlay Y5 (k0_pay3 X2 (k0_pay15 (rowOf i X1) X2)))
            ∗ owns (c : Thread nD τ) arg6 fullShare (k0_pay2 (k0_pay14 (rowOf i X1) X2))
            ∗ owns (c : Thread nD τ) arg7 fullShare (lossNext i (accNext i (rowOf i X1) X2 A9) Y7)
            ∗ owns (c : Thread nD τ) arg8 fullShare (perpNext i (cntNext i (rowOf i X1) X2 A10) Y8)
            ∗ owns (c : Thread nD τ) arg9 fullShare (accNext i (rowOf i X1) X2 A9)
            ∗ owns (c : Thread nD τ) arg10 fullShare (cntNext i (rowOf i X1) X2 A10)) -∗ K ⟨⟩))
      ⊢ wp frame (wpE (defs₀ (F := F)) Variants.none c none) Set.univ
          (cc0__vq_body i arg1 harg1 arg2 harg2 arg3 harg3 arg4 harg4 arg5 harg5 arg6 harg6 arg7 harg7 arg8 harg8 arg9 harg9 arg10 harg10) K := by
  simp only [cc0__vq_body_eq_skeleton]; unfold cc0__vq_body_skel
  unfold owns
  iintro ⟨⟨%f1, %h1, H1⟩, ⟨%f2, %h2, H2⟩, ⟨%d3, %f3, -, H3⟩, ⟨%d4, %f4, -, H4⟩, ⟨%f5, %h5, H5⟩, ⟨%d6, %f6, -, H6⟩, ⟨%f7, %h7, H7⟩, ⟨%f8, %h8, H8⟩, ⟨%f9, %h9, H9⟩, ⟨%f10, %h10, H10⟩, Hk⟩
  subst h1 h2 h5 h7 h8 h9 h10
  have e2 : arg2.view.readAt (Elt F) (Rect.unit ![0, 0] S1024x32.size inb_S1024x32_S1024x32_0_0).toLoadRect f2 = arg2.view.read (Elt F) f2 := View.readAt_full _ _ _
  have e9 : arg9.view.readAt (Elt F) (Rect.unit ![0, 0] S1x1.size inb_S1x1_S1x1_0_0).toLoadRect f9 = arg9.view.read (Elt F) f9 := View.readAt_full _ _ _
  have e10 : arg10.view.readAt (Elt F) (Rect.unit ![0, 0] S1x1024.size inb_S1x1024_S1x1024_0_0).toLoadRect f10 = arg10.view.read (Elt F) f10 := View.readAt_full _ _ _
  rcases (show (i 0).val = 0 ∨ (i 0).val = 31 ∨ ((i 0).val ≠ 0 ∧ (i 0).val ≠ 31) by omega) with c0 | c0 | ⟨c0, c31⟩
  · have c1 : isFirst i := (isFirst_iff i).mpr c0
    have c2 : ¬ isLater i := fun h => (isLater_iff i).mp h c0
    have c3 : ¬ k0_cond3 i = 1#1 := fun h => by have := (isLast_iff i).mp h; omega
    have ea : ∀ x e (A : Vec F S1x1 .f32), accNext i x e A = k0_pay6 (k0_pay13 x e) := fun _ _ _ => if_pos c0
    have ec : ∀ x e (A : Vec F S1x1024 .f32), cntNext i x e A = k0_pay7 (F := F) (k0_pay15 x e) := fun _ _ _ => if_pos c0
    have el : ∀ A Y : Vec F S1x1 .f32, lossNext i A Y = Y := fun _ _ => if_neg (by omega)
    have ep : ∀ (A : Vec F S1x1024 .f32) (Y : Vec F S1x1 .f32), perpNext i A Y = Y := fun _ _ => if_neg (by omega)
    sl_exec (disch := first | sl_exact c1 | sl_exact c2 | sl_exact c3)
    sl_step
    iapply Hk
    isplitl [H1]; · iexists f1; isplitr; · ipureintro; rfl
                    iexact H1
    isplitl [H2]; · iexists f2; isplitr; · ipureintro; rfl
                    iexact H2
    isplitl [H3]
    · iexists _; isplitr; swap; · iexact H3
      ipureintro; rw [← e2]; exact View.read_writes_full _ _ _ _ _
    isplitl [H4]
    · iexists _; isplitr; swap; · iexact H4
      ipureintro; exact View.read_writes_full _ _ _ _ _
    isplitl [H5]
    · iexists _; isplitr; swap; · iexact H5
      ipureintro; exact read_writes_overlay _ _ _ _
    isplitl [H6]
    · iexists _; isplitr; swap; · iexact H6
      ipureintro; exact View.read_writes_full _ _ _ _ _
    isplitl [H7]
    · iexists _; isplitr; swap; · iexact H7
      ipureintro; rw [el]
    isplitl [H8]
    · iexists _; isplitr; swap; · iexact H8
      ipureintro; rw [ep]
    isplitl [H9]
    · iexists _; isplitr; swap; · iexact H9
      ipureintro; rw [ea]; exact View.read_writes_full _ _ _ _ _
    · iexists _; isplitr; swap; · iexact H10
      ipureintro; rw [ec]; exact View.read_writes_full _ _ _ _ _
  · have c1 : ¬ isFirst i := fun h => by have := (isFirst_iff i).mp h; omega
    have c2 : isLater i := (isLater_iff i).mpr (by omega)
    have c3 : k0_cond3 i = 1#1 := (isLast_iff i).mpr c0
    have ea : ∀ x e (A : Vec F S1x1 .f32), accNext i x e A = k0_pay8 (k0_pay13 x e) A := fun _ _ _ => if_neg (by omega)
    have ec : ∀ x e (A : Vec F S1x1024 .f32), cntNext i x e A = k0_pay9 (k0_pay15 x e) A := fun _ _ _ => if_neg (by omega)
    have el : ∀ A Y : Vec F S1x1 .f32, lossNext i A Y = k0_pay10 A := fun _ _ => if_pos c0
    have ep : ∀ (A : Vec F S1x1024 .f32) (Y : Vec F S1x1 .f32), perpNext i A Y = k0_pay11 A := fun _ _ => if_pos c0
    sl_exec (disch := first | sl_exact c1 | sl_exact c2 | sl_exact c3)
    sl_step
    iapply Hk
    isplitl [H1]; · iexists f1; isplitr; · ipureintro; rfl
                    iexact H1
    isplitl [H2]; · iexists f2; isplitr; · ipureintro; rfl
                    iexact H2
    isplitl [H3]
    · iexists _; isplitr; swap; · iexact H3
      ipureintro; rw [← e2]; exact View.read_writes_full _ _ _ _ _
    isplitl [H4]
    · iexists _; isplitr; swap; · iexact H4
      ipureintro; exact View.read_writes_full _ _ _ _ _
    isplitl [H5]
    · iexists _; isplitr; swap; · iexact H5
      ipureintro; exact read_writes_overlay _ _ _ _
    isplitl [H6]
    · iexists _; isplitr; swap; · iexact H6
      ipureintro; exact View.read_writes_full _ _ _ _ _
    isplitl [H7]
    · iexists _; isplitr; swap; · iexact H7
      ipureintro; rw [ea, el]
      exact (View.read_writes_full _ _ _ _ _).trans (congrArg k0_pay10 (View.readAt_writes_full _ _ _ _ _ _))
    isplitl [H8]
    · iexists _; isplitr; swap; · iexact H8
      ipureintro; rw [ec, ep]
      exact (View.read_writes_full _ _ _ _ _).trans (congrArg k0_pay11 (View.readAt_writes_full _ _ _ _ _ _))
    isplitl [H9]
    · iexists _; isplitr; swap; · iexact H9
      ipureintro; rw [ea]; exact View.read_writes_full _ _ _ _ _
    · iexists _; isplitr; swap; · iexact H10
      ipureintro; rw [ec]; exact View.read_writes_full _ _ _ _ _
  · have c1 : ¬ isFirst i := fun h => by have := (isFirst_iff i).mp h; omega
    have c2 : isLater i := (isLater_iff i).mpr (by omega)
    have c3 : ¬ k0_cond3 i = 1#1 := fun h => by have := (isLast_iff i).mp h; omega
    have ea : ∀ x e (A : Vec F S1x1 .f32), accNext i x e A = k0_pay8 (k0_pay13 x e) A := fun _ _ _ => if_neg (by omega)
    have ec : ∀ x e (A : Vec F S1x1024 .f32), cntNext i x e A = k0_pay9 (k0_pay15 x e) A := fun _ _ _ => if_neg (by omega)
    have el : ∀ A Y : Vec F S1x1 .f32, lossNext i A Y = Y := fun _ _ => if_neg (by omega)
    have ep : ∀ (A : Vec F S1x1024 .f32) (Y : Vec F S1x1 .f32), perpNext i A Y = Y := fun _ _ => if_neg (by omega)
    sl_exec (disch := first | sl_exact c1 | sl_exact c2 | sl_exact c3)
    sl_step
    iapply Hk
    isplitl [H1]; · iexists f1; isplitr; · ipureintro; rfl
                    iexact H1
    isplitl [H2]; · iexists f2; isplitr; · ipureintro; rfl
                    iexact H2
    isplitl [H3]
    · iexists _; isplitr; swap; · iexact H3
      ipureintro; rw [← e2]; exact View.read_writes_full _ _ _ _ _
    isplitl [H4]
    · iexists _; isplitr; swap; · iexact H4
      ipureintro; exact View.read_writes_full _ _ _ _ _
    isplitl [H5]
    · iexists _; isplitr; swap; · iexact H5
      ipureintro; exact read_writes_overlay _ _ _ _
    isplitl [H6]
    · iexists _; isplitr; swap; · iexact H6
      ipureintro; exact View.read_writes_full _ _ _ _ _
    isplitl [H7]
    · iexists _; isplitr; swap; · iexact H7
      ipureintro; rw [el]
    isplitl [H8]
    · iexists _; isplitr; swap; · iexact H8
      ipureintro; rw [ep]
    isplitl [H9]
    · iexists _; isplitr; swap; · iexact H9
      ipureintro; rw [ea]; exact View.read_writes_full _ _ _ _ _
    · iexists _; isplitr; swap; · iexact H10
      ipureintro; rw [ec]; exact View.read_writes_full _ _ _ _ _

end Cert.KernelIdeal.Hand

end
-- ==== Proof.Run.lean ====
/-
  The run of the kernel: the relational proof data (what each point leaves in each output window, and the carried scratch between the
  points), the body obligation from the body's triple, and the frame run of @main.
-/
module

public import proofs.«01_k».proof.Proof.Body
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The grid's one coordinate is the point's number. -/
theorem coords_val : ∀ t : Fin grid0.N, ((grid0.coords t) 0).val = t.val := by decide +kernel

/-- The row that point `t` reads, off the inputs array as launched. -/
def xrow (c : Dev nD) (t : Fin cfg0.N) : Vec F S32x1x2048 .f32 := rowOf (grid0.coords t) (iblk m c 0 t)
/-- The codebook as point `t` reads it. -/
def cbk (c : Dev nD) (t : Fin cfg0.N) : Vec F S1024x32 .f32 := iblk m c 1 t
/-- The quantised row that point `t` stores. -/
def qrow (c : Dev nD) (t : Fin cfg0.N) : Vec F S32x1x2048 .f32 := k0_pay3 (cbk m c t) (k0_pay15 (xrow m c t) (cbk m c t))

/-- The carried sum of row minima when `n` points have run. -/
def accN (c : Dev nD) : ℕ → Vec F S1x1 .f32
  | 0 => fun _ => FloatOps.ofBits .f32 0
  | n + 1 => if h : n < cfg0.N then accNext (grid0.coords ⟨n, h⟩) (xrow m c ⟨n, h⟩) (cbk m c ⟨n, h⟩) (accN c n) else accN c n
/-- The carried histogram of codes when `n` points have run. -/
def cntN (c : Dev nD) : ℕ → Vec F S1x1024 .f32
  | 0 => fun _ => FloatOps.ofBits .f32 0
  | n + 1 => if h : n < cfg0.N then cntNext (grid0.coords ⟨n, h⟩) (xrow m c ⟨n, h⟩) (cbk m c ⟨n, h⟩) (cntN c n) else cntN c n

/-- One point more of the carried sum. -/
theorem accN_succ (c : Dev nD) (t : Fin cfg0.N) : accN m c (t.val + 1) = accNext (grid0.coords t) (xrow m c t) (cbk m c t) (accN m c t.val) := by
  rw [accN, dif_pos t.isLt]
/-- One point more of the carried histogram. -/
theorem cntN_succ (c : Dev nD) (t : Fin cfg0.N) : cntN m c (t.val + 1) = cntNext (grid0.coords t) (xrow m c t) (cbk m c t) (cntN m c t.val) := by
  rw [cntN, dif_pos t.isLt]

attribute [irreducible] accN cntN

/-! ## The proof data -/

/-- Between the points: the scratch buffers hold the carried sum and histogram (anything, before the first point). -/
def Inv (c : Dev nD) (n : ℕ) : sProp 𝕄 :=
  iprop(∃ A B, ⌜n ≠ 0 → A = accN m c n ∧ B = cntN m c n⌝
    ∗ owns (c : Thread nD τ) (Memref.whole cc0_scratch0) fullShare A ∗ owns (c : Thread nD τ) (Memref.whole cc0_scratch1) fullShare B
    ∗ ∃ r, prngReg c r)

/-- The windows whose contents after a point are stated by `left` below: the outputs. -/
def fgt0 : Fin 8 → Bool
  | 0 => false | 1 => false | 2 => true | 3 => true | 4 => true | 5 => true | 6 => true | 7 => true

/-- The exact part of the proof data: the arrays as launched, the inputs' blocks left in place, the carried scratch. -/
def dats (_ : Fin 1) (c : Dev nD) : Dat τ (Elt F) Unit ℕ (UR sig nD τ) ℕ cfg0 c where
  A w := V m c (Pipeline.arrRef spec0 w)
  after := fun
    | 0, t => iblk m c 0 t | 1, t => iblk m c 1 t
    | 2, t => Pipeline.Dat.unnamed (cfg := cfg0) 2 t | 3, t => Pipeline.Dat.unnamed (cfg := cfg0) 3 t
    | 4, t => Pipeline.Dat.unnamed (cfg := cfg0) 4 t | 5, t => Pipeline.Dat.unnamed (cfg := cfg0) 5 t
    | 6, t => Pipeline.Dat.unnamed (cfg := cfg0) 6 t | 7, t => Pipeline.Dat.unnamed (cfg := cfg0) 7 t
  Φ t := Inv m c t.val
  q _ := fullShare
  owed _ := 0

/-- What point `t` leaves in each output window: the distances, the one-hot rows, the quantised rows of the block so far, the codes,
    and at the last point the loss and the perplexity. -/
def left (c : Dev nD) : (w : Fin cfg0.W) → Fin cfg0.N → ((cfg0.win w).block.Idx → Elt F (cfg0.win w).elt) → Prop := fun
  | 0, _, _ => True
  | 1, _, _ => True
  | 2, t, X => X = (k0_pay12 (xrow m c t) (cbk m c t) : Vec F S2048x1024 .f32)
  | 3, t, X => X = (k0_pay1 (F := F) (k0_pay15 (xrow m c t) (cbk m c t)) : Vec F S2048x1024 .f32)
  | 4, t, X => ∀ s : Fin cfg0.N, s.val ≤ t.val → s.val / 8 = t.val / 8 → rowOf (F := F) (grid0.coords s) X = qrow m c s
  | 5, t, X => X = (k0_pay2 (k0_pay14 (xrow m c t) (cbk m c t)) : Vec F S2048x1 .i32)
  | 6, t, X => t.val = 31 → X = (k0_pay10 (accN m c 32) : Vec F S1x1 .f32)
  | 7, t, X => t.val = 31 → X = (k0_pay11 (cntN m c 32) : Vec F S1x1 .f32)

/-- The relational proof data of the run. -/
abbrev rd (c : Dev nD) := (dats m 0 c).toRRel fgt0 (left m c)

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d

/-! ## The quantised rows' block -/

/-- Reading back the row just written. -/
theorem rowOf_overlay_self (i : grid0.Coords) (Y : Vec F S32x8x2048 .f32) (w : Vec F S32x1x2048 .f32) : rowOf i ((rowR i).overlay Y w) = w := by
  funext x; exact Rect.overlay_emb (rowR i) Y w x

/-- The rows' offsets on the block's middle axis: the point's number modulo eight. -/
theorem off1_val : ∀ t : Fin grid0.N, k0_off1 (grid0.coords t) (1 : Fin 3) = t.val % 8 := by decide +kernel

/-- Reading another row than the one just written. -/
theorem rowOf_overlay_other (s t : Fin grid0.N) (h : s.val % 8 ≠ t.val % 8) (Y : Vec F S32x8x2048 .f32) (w : Vec F S32x1x2048 .f32) :
    rowOf (grid0.coords s) ((rowR (grid0.coords t)).overlay Y w) = rowOf (grid0.coords s) Y := by
  funext x
  refine Rect.overlay_of_not_mem _ _ _ ?_
  intro hm
  rw [← Rect.map_emb_univ] at hm
  obtain ⟨y, -, hy⟩ := Finset.mem_map.mp hm
  have e := congrArg (fun j : S32x8x2048.Idx => (j (1 : Fin 3)).val) hy
  have e1 : ((rowR (grid0.coords t)).emb y (1 : Fin 3)).val = t.val % 8 + 1 * (y (1 : Fin 3)).val := congrArg (· + 1 * (y (1 : Fin 3)).val) (off1_val t)
  have e2 : ((rowR (grid0.coords s)).idx x (1 : Fin 3)).val = s.val % 8 + 1 * (x (1 : Fin 3)).val := congrArg (· + 1 * (x (1 : Fin 3)).val) (off1_val s)
  have y0 : (y (1 : Fin 3)).val < 1 := (y (1 : Fin 3)).isLt
  have x0 : (x (1 : Fin 3)).val < 1 := (x (1 : Fin 3)).isLt
  have e' : ((rowR (grid0.coords t)).emb y (1 : Fin 3)).val = ((rowR (grid0.coords s)).idx x (1 : Fin 3)).val := e
  omega

/-- What the body finds in the quantised rows' window keeps the earlier rows of the block. -/
theorem finds_rows (c : Dev nD) (t : Fin cfg0.N) (Y : Vec F S32x8x2048 .f32) (hY : (rd m c).Finds 4 t Y) (s : Fin cfg0.N)
    (hs : s.val < t.val) (hb : s.val / 8 = t.val / 8) : rowOf (grid0.coords s) Y = qrow m c s := by
  have ht : t.val ≠ 0 := by omega
  rcases ((rd m c).finds_of_pos (w := 4) rfl ht Y).mp hY with h | h
  · have h7 := (flush0_4 ⟨t.val - 1, _⟩).mp h
    simp only at h7; omega
  · exact ((dats m 0 c).toRRel_leaves (w := 4) rfl h) s (by simp only; omega) (by simp only; omega)

theorem left_rows (c : Dev nD) (t : Fin cfg0.N) (Y : Vec F S32x8x2048 .f32) (hY : (rd m c).Finds 4 t Y) :
    left m c 4 t ((rowR (grid0.coords t)).overlay Y (qrow m c t)) := by
  intro s hs hb
  rcases Nat.lt_or_eq_of_le hs with h | h
  · have hne : s.val % 8 ≠ t.val % 8 := by omega
    exact (rowOf_overlay_other s t hne Y _).trans (finds_rows m c t Y hY s h hb)
  · obtain rfl : s = t := Fin.ext h
    exact rowOf_overlay_self _ _ _

/-! ## The body obligation -/

/-- What the body is called with at point `t`. -/
def bodyPre (c : Dev nD) (t : Fin cfg0.N) : sProp 𝕄 :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rd m c).Finds 2 t Y⌝ ∗ owns (c : Thread nD τ) (st0_2 t) fullShare Y)
    ∗ (∃ Y, ⌜(rd m c).Finds 3 t Y⌝ ∗ owns (c : Thread nD τ) (st0_3 t) fullShare Y)
    ∗ (∃ Y, ⌜(rd m c).Finds 4 t Y⌝ ∗ owns (c : Thread nD τ) (st0_4 t) fullShare Y)
    ∗ (∃ Y, ⌜(rd m c).Finds 5 t Y⌝ ∗ owns (c : Thread nD τ) (st0_5 t) fullShare Y)
    ∗ (∃ Y, ⌜(rd m c).Finds 6 t Y⌝ ∗ owns (c : Thread nD τ) (st0_6 t) fullShare Y)
    ∗ (∃ Y, ⌜(rd m c).Finds 7 t Y⌝ ∗ owns (c : Thread nD τ) (st0_7 t) fullShare Y))

/-- What it returns. -/
def bodyPost (c : Dev nD) (t : Fin cfg0.N) : sProp 𝕄 :=
  iprop(Inv m c (t.val + 1) ∗ (dats m 0 c).owesAt () t.succ
    ∗ owns (c : Thread nD τ) (st0_0 t) fullShare (iblk m c 0 t)
    ∗ owns (c : Thread nD τ) (st0_1 t) fullShare (iblk m c 1 t)
    ∗ (∃ X, ⌜left m c 2 t X⌝ ∗ owns (c : Thread nD τ) (st0_2 t) fullShare X)
    ∗ (∃ X, ⌜left m c 3 t X⌝ ∗ owns (c : Thread nD τ) (st0_3 t) fullShare X)
    ∗ (∃ X, ⌜left m c 4 t X⌝ ∗ owns (c : Thread nD τ) (st0_4 t) fullShare X)
    ∗ (∃ X, ⌜left m c 5 t X⌝ ∗ owns (c : Thread nD τ) (st0_5 t) fullShare X)
    ∗ (∃ X, ⌜left m c 6 t X⌝ ∗ owns (c : Thread nD τ) (st0_6 t) fullShare X)
    ∗ (∃ X, ⌜left m c 7 t X⌝ ∗ owns (c : Thread nD τ) (st0_7 t) fullShare X))

/-- The carried sum's step, from whatever the scratch held: the first point ignores it. -/
theorem acc_step (c : Dev nD) (t : Fin cfg0.N) (A : Vec F S1x1 .f32) (hA : t.val ≠ 0 → A = accN m c t.val) :
    accNext (grid0.coords t) (xrow m c t) (cbk m c t) A = accN m c (t.val + 1) := by
  rw [accN_succ]
  by_cases h : t.val = 0
  · have h0 : ((grid0.coords t) 0).val = 0 := (coords_val t).trans h
    unfold accNext; rw [if_pos h0, if_pos h0]
  · rw [hA h]
theorem cnt_step (c : Dev nD) (t : Fin cfg0.N) (A : Vec F S1x1024 .f32) (hA : t.val ≠ 0 → A = cntN m c t.val) :
    cntNext (grid0.coords t) (xrow m c t) (cbk m c t) A = cntN m c (t.val + 1) := by
  rw [cntN_succ]
  by_cases h : t.val = 0
  · have h0 : ((grid0.coords t) 0).val = 0 := (coords_val t).trans h
    unfold cntNext; rw [if_pos h0, if_pos h0]
  · rw [hA h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Inv
  simp only [before_0, before_1]
  rw [show (dats m 0 c).owesAt () t.succ = (dats m 0 c).owesAt () t.castSucc from rfl]
  iintro ⟨⟨%A, %B, %hAB, HA, HB, Hg⟩, HO, ⟨%d0, H0⟩, ⟨%d1, H1⟩, ⟨%Y2, -, H2⟩, ⟨%Y3, -, H3⟩, ⟨%Y4, %h4, H4⟩, ⟨%Y5, -, H5⟩, ⟨%Y6, -, H6⟩, ⟨%Y7, -, H7⟩⟩
  have ea := acc_step m c t A fun h => (hAB h).1
  have eb := cnt_step m c t B fun h => (hAB h).2
  iapply (kernelRun c (grid0.coords t) (st0_0 t) _ (st0_1 t) _ (st0_2 t) _ (st0_3 t) _ (st0_4 t) _ (st0_5 t) _ (st0_6 t) _ (st0_7 t) _
    (Memref.whole cc0_scratch0) _ (Memref.whole cc0_scratch1) _ (iblk m c 0 t) (iblk m c 1 t) Y4 Y6 Y7 A B _)
  isplitl [H0]; · iexact H0
  isplitl [H1]; · iexact H1
  isplitl [H2]; · iexists _; iexact H2
  isplitl [H3]; · iexists _; iexact H3
  isplitl [H4]; · iexact H4
  isplitl [H5]; · iexists _; iexact H5
  isplitl [H6]; · iexact H6
  isplitl [H7]; · iexact H7
  isplitl [HA]; · iexact HA
  isplitl [HB]; · iexact HB
  iintro ⟨H0, H1, H2, H3, H4, H5, H6, H7, HA, HB⟩
  isplitl [HA HB Hg]
  · iexists _, _; isplitr
    swap
    · isplitl [HA]; · iexact HA
      isplitl [HB]; · iexact HB
      iexact Hg
    ipureintro; exact fun _ => ⟨ea, eb⟩
  isplitl [HO]; · iexact HO
  isplitl [H0]; · iexact H0
  isplitl [H1]; · iexact H1
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; exact left_rows m c t Y4 h4
  isplitl [H5]
  · iexists _; isplitr; swap; · iexact H5
    ipureintro; rfl
  isplitl [H6]
  · iexists _; isplitr; swap; · iexact H6
    ipureintro; intro h
    have h0 : ((grid0.coords t) 0).val = 31 := (coords_val t).trans h
    unfold lossNext; rw [if_pos h0]
    exact congrArg k0_pay10 (ea.trans (by rw [h]))
  · iexists _; isplitr; swap; · iexact H7
    ipureintro; intro h
    have h0 : ((grid0.coords t) 0).val = 31 := (coords_val t).trans h
    unfold perpNext; rw [if_pos h0]
    exact congrArg k0_pay11 (eb.trans (by rw [h]))

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs held to `left`. -/
theorem body_obligation (c : Dev nD) :
    Pipeline.BodyObligationRel (dats (F := F) m 0 c) (defs₀ (F := F)) Variants.none () Set.univ fgt0 (left m c) := fun t => by
  rw [bigSep_W0, bigSep_W0, defs₀_row]
  exact triple_restated (sound_body m c t) rfl .rfl fun _ => .rfl

/-! ## The run -/

/-- Before the first point the scratch holds anything. -/
theorem inv_in (c : Dev nD) : (Pipeline.ΦA spec0 c : sProp 𝕄) ⊢ Inv m c 0 := by
  unfold Pipeline.ΦA Inv
  rw [scopedRest0_eq]
  simp only [owns_whole]
  iintro ⟨⟨⟨%f, HA⟩, ⟨%g, HB⟩⟩, Hg⟩
  iexists f, g; isplitr
  · ipureintro; exact fun h => absurd rfl h
  isplitl [HA]; · iexact HA
  isplitl [HB]; · iexact HB
  iexact Hg
/-- After the last point what it holds is forgotten. -/
theorem inv_out (c : Dev nD) (n : ℕ) : Inv m c n ⊢ (Pipeline.ΦA spec0 c : sProp 𝕄) := by
  unfold Pipeline.ΦA Inv
  rw [scopedRest0_eq]
  simp only [owns_whole]
  iintro ⟨%A, %B, -, HA, HB, Hg⟩
  isplitl [HA HB]
  · isplitl [HA]; · iexists A; iexact HA
    iexists B; iexact HB
  iexact Hg

set_option backward.isDefEq.respectTransparency.types false in
/-- Every weakly fair execution of @main from a memory with zero counters terminates, with every array holding what the points' write-backs
    may leave and every counter at zero. -/
theorem run_main :
    θ_run defs (onTc (τ := τ) (main (F := F))) (s₀ m ρ)
      (fun r => Pipeline.RDat.FramePost (cfgs 0) (rd m) (V m) r ∧ r.2.sem = fun _ => 0) :=
  Pipeline.RDat.θ_run_frame_track (Q' := _) cfgs (0 : Fin 1) launch0 defs₀ Variants.none (rd m) m ρ main
    (hbody := fun c => (body_obligation m c).toRRel) (hshare := fun c => (dats m 0 c).share_full fun _ => rfl)
    (howed := fun _ _ => rfl) (V := V m) (hmain := hmain m Variants.none) (hA := A_eq m)
    (hin := inv_in m) (hout := fun c => inv_out m c _)

end Cert.KernelIdeal.Hand

end
-- ==== Proof.Arrays.lean ====
/-
  What the arrays hold when the kernel's run has ended, each element as a payload of the arrays as launched; and the frame claims'
  posts.
-/
module

public import proofs.«01_k».proof.Proof.Run
public import Idealize.ShloMosaic.Lib.ValueIdx
public import Idealize.ShloMosaic.Lib.ValueIdxCoords

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx

variable {F : FTy → Type} [FloatOps F]
variable (m : (ℓ : Loc nD τ sig) → Buf (Elt F) ℓ) (ρ : Dev nD → PrngReg)

/-- After the run the arguments hold what they held at launch. -/
theorem post_args {r : PUnit × MemSt nD τ sig (Elt F)} (h : Pipeline.RDat.FramePost (cfgs 0) (rd m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 0 rfl).trans (A_eq m c 0), (h.arr_in c 1 rfl).trans (A_eq m c 1)⟩

/-- The frame: @main runs, the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨post_args m h.1, h.2⟩) (run_main m ρ)

/-! ## The blocks -/

/-- The inputs array as launched. -/
abbrev inX (c : Dev nD) : Vec F S32x32x2048 .f32 := m ((c.tc : Thread nD τ).loc main_arg0)
/-- The codebook as launched. -/
abbrev inE (c : Dev nD) : Vec F S1024x32 .f32 := m ((c.tc : Thread nD τ).loc main_arg1)

/-- Time row `t` of the inputs: features by batch. -/
def xat (X : Vec F S32x32x2048 .f32) (t : Fin 32) : Vec F S32x1x2048 .f32 := fun x => X (ix3 (x 0) t (x 2))

theorem index_0 : ∀ t : Fin grid0.N, (win0_0.index t 0 = 0 ∧ win0_0.index t 1 = t.val / 8 ∧ win0_0.index t 2 = 0) ∧ (k0_off1 (grid0.coords t) 0 = 0 ∧ k0_off1 (grid0.coords t) 2 = 0) := by decide +kernel
theorem index_1 : ∀ t : Fin grid0.N, win0_1.index t 0 = 0 ∧ win0_1.index t 1 = 0 := by decide +kernel
theorem index_2 : ∀ t : Fin grid0.N, win0_2.index t 0 = t.val ∧ win0_2.index t 1 = 0 := by decide +kernel
theorem index_3 : ∀ t : Fin grid0.N, win0_3.index t 0 = t.val ∧ win0_3.index t 1 = 0 := by decide +kernel
theorem index_4 : ∀ t : Fin grid0.N, win0_4.index t 0 = 0 ∧ win0_4.index t 1 = t.val / 8 ∧ win0_4.index t 2 = 0 := by decide +kernel
theorem index_5 : ∀ t : Fin grid0.N, win0_5.index t 0 = t.val ∧ win0_5.index t 1 = 0 := by decide +kernel

/-- The codebook's one block is the codebook. -/
theorem cbk_eq (c : Dev nD) (t : Fin cfg0.N) : cbk m c t = inE m c := by
  funext y
  show inE m c ((win0_1.blk t).view.emb y) = inE m c y
  congr 1; funext a; apply Fin.ext
  have h := index_1 t
  have e : ((win0_1.blk t).view.emb y a).val = win0_1.index t a * win0_1.size a + (y a).val := Pipeline.Window.rect_emb_val _ _ _ _
  rw [e]
  match a with
  | ⟨0, _⟩ => rw [show win0_1.index t ⟨0, _⟩ = 0 from h.1]; omega
  | ⟨1, _⟩ => rw [show win0_1.index t ⟨1, _⟩ = 0 from h.2]; omega

/-- Where an element of the row that point `t` reads sits in the inputs, axis by axis. -/
theorem row_emb (t : Fin grid0.N) (x : S32x1x2048.Idx) :
    (win0_0.blk t).view.emb ((rowR (grid0.coords t)).idx x) = (ix3 (x 0) (t.cast N_0) (x 2) : S32x32x2048.Idx) := by
  obtain ⟨⟨i0, i1, i2⟩, o0, o2⟩ := index_0 t
  have h1 := off1_val t
  have e : ∀ a, ((win0_0.blk t).view.emb ((rowR (grid0.coords t)).idx x) a).val
      = win0_0.index t a * win0_0.size a + ((rowR (grid0.coords t)).idx x a).val := fun a => Pipeline.Window.rect_emb_val _ _ _ _
  have e' : ∀ a, ((rowR (grid0.coords t)).idx x a).val = k0_off1 (grid0.coords t) a + 1 * (x a).val := fun _ => rfl
  have x1 : (x (1 : Fin 3)).val < 1 := (x 1).isLt
  have f0 : ((win0_0.blk t).view.emb ((rowR (grid0.coords t)).idx x) (0 : Fin 3)).val = (x 0).val := by
    rw [e, e', i0, o0]; omega
  have f1 : ((win0_0.blk t).view.emb ((rowR (grid0.coords t)).idx x) (1 : Fin 3)).val = t.val := by
    rw [e, e', i1, h1, show win0_0.size (1 : Fin 3) = 8 from rfl]; omega
  have f2 : ((win0_0.blk t).view.emb ((rowR (grid0.coords t)).idx x) (2 : Fin 3)).val = (x 2).val := by
    rw [e, e', i2, o2]; omega
  funext a
  match a with
  | ⟨0, _⟩ => exact Fin.ext f0
  | ⟨1, _⟩ => exact Fin.ext f1
  | ⟨2, _⟩ => exact Fin.ext f2

/-- The row that point `t` reads is time row `t` of the inputs. -/
theorem xrow_eq (c : Dev nD) (t : Fin cfg0.N) : xrow m c t = xat (inX m c) (t.cast N_0) := by
  funext x
  exact congrArg (inX m c) (row_emb t x)

/-! ## The result arrays -/

variable [∀ e, Nonempty (Elt F e)]

/-- The point that handles row `n` of the flattened rows, and the row's place in it. -/
abbrev ptOf (n : Fin 65536) : Fin 32 := ⟨n.val / 2048, by omega⟩
abbrev inPt (n : Fin 65536) : Fin 2048 := ⟨n.val % 2048, by omega⟩

/-- The distances, whole. -/
def distG (X : Vec F S32x32x2048 .f32) (E : Vec F S1024x32 .f32) : Vec F S65536x1024 .f32 :=
  fun i => k0_pay12 (xat X (ptOf (i 0))) E (ix2 (inPt (i 0)) (i 1))
/-- The one-hot rows, whole. -/
def encG (X : Vec F S32x32x2048 .f32) (E : Vec F S1024x32 .f32) : Vec F S65536x1024 .f32 :=
  fun i => k0_pay1 (F := F) (k0_pay15 (xat X (ptOf (i 0))) E) (ix2 (inPt (i 0)) (i 1))
/-- The quantised values, whole. -/
def quantG (X : Vec F S32x32x2048 .f32) (E : Vec F S1024x32 .f32) : Vec F S32x32x2048 .f32 :=
  fun i => k0_pay3 E (k0_pay15 (xat X (i 1)) E) (ix3 (i 0) 0 (i 2))
/-- The codes, whole. -/
def idxG (X : Vec F S32x32x2048 .f32) (E : Vec F S1024x32 .f32) : Vec F S65536x1 .i32 :=
  fun i => k0_pay2 (k0_pay14 (xat X (ptOf (i 0))) E) (ix2 (inPt (i 0)) (i 1))

/-- Where an element of a block of rows sits among all the rows. -/
theorem place_rows {n : ℕ} (t : Fin grid0.N) (y : (⟨2, ![2048, n]⟩ : Shape).Idx) (g : (⟨2, ![65536, n]⟩ : Shape).Idx)
    (h0 : (g 0).val = t.val * 2048 + (y 0).val) (h1 : (g 1).val = (y 1).val) :
    ptOf (g 0) = t.cast N_0 ∧ (ix2 (inPt (g 0)) (g 1) : (⟨2, ![2048, n]⟩ : Shape).Idx) = y := by
  have hy : (y 0).val < 2048 := (y 0).isLt
  refine ⟨Fin.ext (show (g 0).val / 2048 = t.val by omega), ?_⟩
  funext a
  match a with
  | ⟨0, _⟩ => exact Fin.ext (show (g 0).val % 2048 = (y 0).val by omega)
  | ⟨1, _⟩ => exact Fin.ext h1

theorem emb_2 (t : Fin grid0.N) (y : S2048x1024.Idx) :
    ((win0_2.blk t).view.emb y (0 : Fin 2)).val = t.val * 2048 + (y 0).val ∧ ((win0_2.blk t).view.emb y (1 : Fin 2)).val = (y 1).val := by
  have e : ∀ a, ((win0_2.blk t).view.emb y a).val = win0_2.index t a * win0_2.size a + (y a).val := fun a => Pipeline.Window.rect_emb_val _ _ _ _
  constructor
  · rw [e, (index_2 t).1, show win0_2.size (0 : Fin 2) = 2048 from rfl]
  · rw [e, (index_2 t).2]; omega
theorem emb_3 (t : Fin grid0.N) (y : S2048x1024.Idx) :
    ((win0_3.blk t).view.emb y (0 : Fin 2)).val = t.val * 2048 + (y 0).val ∧ ((win0_3.blk t).view.emb y (1 : Fin 2)).val = (y 1).val := by
  have e : ∀ a, ((win0_3.blk t).view.emb y a).val = win0_3.index t a * win0_3.size a + (y a).val := fun a => Pipeline.Window.rect_emb_val _ _ _ _
  constructor
  · rw [e, (index_3 t).1, show win0_3.size (0 : Fin 2) = 2048 from rfl]
  · rw [e, (index_3 t).2]; omega
theorem emb_5 (t : Fin grid0.N) (y : S2048x1.Idx) :
    ((win0_5.blk t).view.emb y (0 : Fin 2)).val = t.val * 2048 + (y 0).val ∧ ((win0_5.blk t).view.emb y (1 : Fin 2)).val = (y 1).val := by
  have e : ∀ a, ((win0_5.blk t).view.emb y a).val = win0_5.index t a * win0_5.size a + (y a).val := fun a => Pipeline.Window.rect_emb_val _ _ _ _
  constructor
  · rw [e, (index_5 t).1, show win0_5.size (0 : Fin 2) = 2048 from rfl]
  · rw [e, (index_5 t).2]; omega

/-- The point that stores row `y 1` of the block which point `t` writes back. -/
def rowPt (t : Fin grid0.N) (y : S32x8x2048.Idx) : Fin grid0.N :=
  ⟨t.val / 8 * 8 + (y 1).val, by have : (y 1).val < 8 := (y 1).isLt; have := t.isLt; have := N_0; omega⟩

/-- Where an element of a block of quantised rows sits in the array. -/
theorem emb_4 (t : Fin grid0.N) (y : S32x8x2048.Idx) :
    ((win0_4.blk t).view.emb y : S32x32x2048.Idx) = ix3 (y 0) ((rowPt t y).cast N_0) (y 2) := by
  have e : ∀ a, ((win0_4.blk t).view.emb y a).val = win0_4.index t a * win0_4.size a + (y a).val := fun a => Pipeline.Window.rect_emb_val _ _ _ _
  obtain ⟨i0, i1, i2⟩ := index_4 t
  have f0 : ((win0_4.blk t).view.emb y (0 : Fin 3)).val = (y 0).val := by rw [e, i0]; omega
  have f1 : ((win0_4.blk t).view.emb y (1 : Fin 3)).val = t.val / 8 * 8 + (y 1).val := by
    rw [e, i1, show win0_4.size (1 : Fin 3) = 8 from rfl]
  have f2 : ((win0_4.blk t).view.emb y (2 : Fin 3)).val = (y 2).val := by rw [e, i2]; omega
  funext a
  match a with
  | ⟨0, _⟩ => exact Fin.ext f0
  | ⟨1, _⟩ => exact Fin.ext f1
  | ⟨2, _⟩ => exact Fin.ext f2

/-- An element of the block is the element of the row that its point stored. -/
theorem idx_rowPt (t : Fin grid0.N) (y : S32x8x2048.Idx) :
    (rowR (grid0.coords (rowPt t y))).idx (ix3 (y 0) 0 (y 2) : S32x1x2048.Idx) = y := by
  obtain ⟨-, o0, o2⟩ := index_0 (rowPt t y)
  have h1 := off1_val (rowPt t y)
  have hy : (y 1).val < 8 := (y 1).isLt
  have e' : ∀ a, ((rowR (grid0.coords (rowPt t y))).idx (ix3 (y 0) 0 (y 2) : S32x1x2048.Idx) a).val
      = k0_off1 (grid0.coords (rowPt t y)) a + 1 * ((ix3 (y 0) 0 (y 2) : S32x1x2048.Idx) a).val := fun _ => rfl
  have f0 : ((rowR (grid0.coords (rowPt t y))).idx (ix3 (y 0) 0 (y 2) : S32x1x2048.Idx) (0 : Fin 3)).val = (y 0).val := by
    rw [e', o0, show ((ix3 (y 0) 0 (y 2) : S32x1x2048.Idx) (0 : Fin 3)).val = (y 0).val from rfl]; omega
  have f1 : ((rowR (grid0.coords (rowPt t y))).idx (ix3 (y 0) 0 (y 2) : S32x1x2048.Idx) (1 : Fin 3)).val = (y 1).val := by
    rw [e', h1, show ((ix3 (y 0) 0 (y 2) : S32x1x2048.Idx) (1 : Fin 3)).val = 0 from rfl, show (rowPt t y).val = t.val / 8 * 8 + (y 1).val from rfl]; omega
  have f2 : ((rowR (grid0.coords (rowPt t y))).idx (ix3 (y 0) 0 (y 2) : S32x1x2048.Idx) (2 : Fin 3)).val = (y 2).val := by
    rw [e', o2, show ((ix3 (y 0) 0 (y 2) : S32x1x2048.Idx) (2 : Fin 3)).val = (y 2).val from rfl]; omega
  funext a
  match a with
  | ⟨0, _⟩ => exact Fin.ext f0
  | ⟨1, _⟩ => exact Fin.ext f1
  | ⟨2, _⟩ => exact Fin.ext f2

theorem distG_at (X : Vec F S32x32x2048 .f32) (E : Vec F S1024x32 .f32) (t : Fin grid0.N) (y : S2048x1024.Idx) :
    distG X E ((win0_2.blk t).view.emb y) = k0_pay12 (xat X (t.cast N_0)) E y := by
  obtain ⟨hp, hq⟩ := place_rows t y ((win0_2.blk t).view.emb y) (emb_2 t y).1 (emb_2 t y).2
  unfold distG; rw [hp]; exact congrArg _ hq
theorem encG_at (X : Vec F S32x32x2048 .f32) (E : Vec F S1024x32 .f32) (t : Fin grid0.N) (y : S2048x1024.Idx) :
    encG X E ((win0_3.blk t).view.emb y) = k0_pay1 (F := F) (k0_pay15 (xat X (t.cast N_0)) E) y := by
  obtain ⟨hp, hq⟩ := place_rows t y ((win0_3.blk t).view.emb y) (emb_3 t y).1 (emb_3 t y).2
  unfold encG; rw [hp]; exact congrArg _ hq
theorem idxG_at (X : Vec F S32x32x2048 .f32) (E : Vec F S1024x32 .f32) (t : Fin grid0.N) (y : S2048x1.Idx) :
    idxG X E ((win0_5.blk t).view.emb y) = k0_pay2 (k0_pay14 (xat X (t.cast N_0)) E) y := by
  obtain ⟨hp, hq⟩ := place_rows t y ((win0_5.blk t).view.emb y) (emb_5 t y).1 (emb_5 t y).2
  unfold idxG; rw [hp]; exact congrArg _ hq

/-- A one-by-one array has one index. -/
instance : Subsingleton S1x1.Idx := ⟨fun a b => by
  funext k
  match k with
  | ⟨0, _⟩ => exact Subsingleton.elim (α := Fin 1) _ _
  | ⟨1, _⟩ => exact Subsingleton.elim (α := Fin 1) _ _⟩

/-- The result arrays after the run. -/
theorem post_results {r : PUnit × MemSt nD τ sig (Elt F)} (h : Pipeline.RDat.FramePost (cfgs 0) (rd m) (V m) r) (c : Dev nD) :
    r.2.mem ((c.tc : Thread nD τ).loc main_v0_0) = distG (inX m c) (inE m c)
      ∧ r.2.mem ((c.tc : Thread nD τ).loc main_v0_1) = encG (inX m c) (inE m c)
      ∧ r.2.mem ((c.tc : Thread nD τ).loc main_v0_2) = quantG (inX m c) (inE m c)
      ∧ r.2.mem ((c.tc : Thread nD τ).loc main_v0_3) = idxG (inX m c) (inE m c)
      ∧ r.2.mem ((c.tc : Thread nD τ).loc main_v0_4) = k0_pay10 (accN m c 32)
      ∧ r.2.mem ((c.tc : Thread nD τ).loc main_v0_5) = k0_pay11 (cntN m c 32) := by
  obtain ⟨after, hL, hA⟩ := h.exists_exact c
  have hl : ∀ w t, fgt0 w = true → (cfg0.win w).flush t = true → left m c w t (after w t) := fun w t hw hf =>
    (dats m 0 c).toRRel_leaves hw (hL w t hf)
  refine ⟨(hA 2).trans ?_, (hA 3).trans ?_, (hA 4).trans ?_, (hA 5).trans ?_, (hA 6).trans ?_, (hA 7).trans ?_⟩
  · refine Pipeline.Dat.arrAt_eq_of_covers _ 2 _ (by decide +kernel) fun t hf y => ?_
    have e : after 2 t = k0_pay12 (xrow m c t) (cbk m c t) := hl 2 t rfl hf
    refine (congrFun e y).trans ?_
    rw [cbk_eq, xrow_eq]; exact (distG_at _ _ t y).symm
  · refine Pipeline.Dat.arrAt_eq_of_covers _ 3 _ (by decide +kernel) fun t hf y => ?_
    have e : after 3 t = k0_pay1 (F := F) (k0_pay15 (xrow m c t) (cbk m c t)) := hl 3 t rfl hf
    refine (congrFun e y).trans ?_
    rw [cbk_eq, xrow_eq]; exact (encG_at _ _ t y).symm
  · refine Pipeline.Dat.arrAt_eq_of_covers _ 4 _ (by decide +kernel) fun t hf y => ?_
    have h7 : t.val % 8 = 7 := (flush0_4 t).mp hf
    have hy : (y (1 : Fin 3)).val < 8 := (y (1 : Fin 3)).isLt
    have e : rowOf (F := F) (grid0.coords (rowPt t y)) (after 4 t) = qrow m c (rowPt t y) :=
      hl 4 t rfl hf (rowPt t y) (show t.val / 8 * 8 + (y (1 : Fin 3)).val ≤ t.val by omega) (show (t.val / 8 * 8 + (y (1 : Fin 3)).val) / 8 = t.val / 8 by omega)
    have e1 : after 4 t y = qrow m c (rowPt t y) (ix3 (y (0 : Fin 3)) 0 (y (2 : Fin 3)) : S32x1x2048.Idx) :=
      (congrArg (after 4 t) (idx_rowPt t y).symm).trans (congrFun e _)
    refine e1.trans ?_
    unfold qrow
    rw [cbk_eq, xrow_eq]
    exact (congrArg (quantG (inX m c) (inE m c)) (emb_4 t y)).symm
  · refine Pipeline.Dat.arrAt_eq_of_covers _ 5 _ (by decide +kernel) fun t hf y => ?_
    have e : after 5 t = k0_pay2 (k0_pay14 (xrow m c t) (cbk m c t)) := hl 5 t rfl hf
    refine (congrFun e y).trans ?_
    rw [cbk_eq, xrow_eq]; exact (idxG_at _ _ t y).symm
  · refine Pipeline.Dat.arrAt_eq_of_covers _ 6 _ (by decide +kernel) fun t hf y => ?_
    have h31 : t.val % 32 = 31 := (flush0_6 t).mp hf
    have e : after 6 t = k0_pay10 (accN m c 32) := hl 6 t rfl hf (by have := lt_of_lt_of_eq t.isLt N_0; omega)
    refine (congrFun e y).trans (congrArg (k0_pay10 (accN m c 32)) (Subsingleton.elim (α := S1x1.Idx) _ _))
  · refine Pipeline.Dat.arrAt_eq_of_covers _ 7 _ (by decide +kernel) fun t hf y => ?_
    have h31 : t.val % 32 = 31 := (flush0_7 t).mp hf
    have e : after 7 t = k0_pay11 (cntN m c 32) := hl 7 t rfl hf (by have := lt_of_lt_of_eq t.isLt N_0; omega)
    refine (congrFun e y).trans (congrArg (k0_pay11 (cntN m c 32)) (Subsingleton.elim (α := S1x1.Idx) _ _))

end Cert.KernelIdeal.Hand

end
-- ==== Proof.KernelFrame.lean ====
/-
  The frame of the kernel over bits: its printed program is the one over the ideal values, taken at the bits.
-/
module

public import proofs.«01_k».proof.Proof.Arrays
public import proofs.«01_k».proof.Proof.Gen.Kernel

@[expose] public section

set_option maxRecDepth 16384

noncomputable section

namespace Cert.Kernel.Hand

open Idealize.ShloMosaic Idealize.SL.Sem

instance : Cert.Kernel.Facts := Cert.Kernel.Gen.facts
instance : Cert.KernelIdeal.Facts := Cert.KernelIdeal.Gen.facts

variable {F : FTy → Type} [FloatOps F]

/-- The two programs launch one body. -/
theorem bodies_eq : Cert.Kernel.defs₀ (F := F) = Cert.KernelIdeal.defs₀ (F := F) := by
  unfold Cert.Kernel.defs₀ Cert.KernelIdeal.defs₀
  refine congrArg Defs.onTc ?_
  funext ℓ a
  rcases ℓ with ⟨_ | n, h⟩
  · rfl
  · exact absurd h (by omega)

/-- The two programs have one body table. -/
theorem defs_eq : Cert.Kernel.defs (F := F) = Cert.KernelIdeal.defs (F := F) :=
  congrArg (Pipeline.defs (Cert.KernelIdeal.pcfgs (F := F))) bodies_eq

open Cert.Kernel in
/-- The frame: @main runs, the arguments end unchanged and every semaphore counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.KernelIdeal.Hand.frame (F := F) m ρ

end Cert.Kernel.Hand

end
-- ==== Proof.RefRun.lean ====
/-
  The reference's run: what each of its six results holds when it has ended, as the reference's own host operations composed over
  the two arguments.
-/
module

public import proofs.«01_k».proof.Defs
public import proofs.«01_k».proof.Proof.Gen.ReferenceIdeal
public import Idealize.ShloMosaic.Lib.Claim

@[expose] public section

set_option maxRecDepth 16384

noncomputable section

namespace Cert.ReferenceIdeal.Hand

open Cert.ReferenceIdeal Cert.ReferenceIdeal.Facts₀
open Idealize.ShloMosaic Idealize.ShloMosaic.StableHlo Idealize.SL.Sem

instance : Cert.ReferenceIdeal.Facts := Cert.ReferenceIdeal.Gen.facts

variable {F : FTy → Type} [FloatOps F]

/-- The inputs with the channel last. -/
def lastX (X : Vec F S32x32x2048 .f32) : Vec F S32x2048x32 .f32 :=
  transpose S32x2048x32 [1, 2, 0] X transposes_S32x32x2048_S32x2048x32_1_2_0

/-- The inputs as rows of channels. -/
def flatX (X : Vec F S32x32x2048 .f32) : Vec F S65536x32 .f32 :=
  shapeCast S65536x32 (lastX X) shapeCasts_S32x2048x32_S65536x32

/-- The squared distance of every row from every code. -/
def dist (X : Vec F S32x32x2048 .f32) (E : Vec F S1024x32 .f32) : Vec F S65536x1024 .f32 :=
  subf
    (addf
      (broadcastInDim S65536x1024 ![0, 1] bcast_S65536x1_S65536x1024_0_1
        (broadcastInDim S65536x1 ![0] bcast_S65536_S65536x1_0
          (Host.reduceAdd (mulf (flatX X) (flatX X)) (constant S_ .f32 0x00000000#32) reducesTo_S65536x32_S65536_d1 h_S_)))
      (broadcastInDim S65536x1024 ![0, 1] bcast_S1x1024_S65536x1024_0_1
        (broadcastInDim S1x1024 ![1] bcast_S1024_S1x1024_1
          (Host.reduceAdd (mulf E E) (constant S_ .f32 0x00000000#32) reducesTo_S1024x32_S1024_d1 h_S_))))
    (mulf (broadcastInDim S65536x1024 ![] bcast_S_S65536x1024 (constant S_ .f32 0x40000000#32))
      (Host.dotGeneral dot_S65536x32_S32x1024_S65536x1024_1_0_0_1_n_n none (flatX X)
        (transpose S32x1024 [1, 0] E transposes_S1024x32_S32x1024_1_0)))

/-- The number of each row's nearest code, of the distances `D`. -/
def nearest (D : Vec F S65536x1024 .f32) : Vec F S65536 .i32 := fun j =>
  (Host.argReduce reducer_argmin_f32_i32 D (iotaInDim S65536x1024 32 1) (constant S_ .f32 0x7F800000#32) (constantI S_ 32 0#32)
    reducesTo_S65536x1024_S65536_d1 h_S_ j).2

/-- Each row's one-hot encoding, of the code numbers `A`. -/
def oneHot (A : Vec F S65536 .i32) : Vec F S65536x1024 .f32 :=
  uitofp .f32 (cmpi .eq
    (broadcastInDim S65536x1024 ![0, 1] bcast_S65536x1_S65536x1024_0_1 (broadcastInDim S65536x1 ![0] bcast_S65536_S65536x1_0 A))
    (broadcastInDim S65536x1024 ![0, 1] bcast_S1x1024_S65536x1024_0_1 (iotaInDim S1x1024 32 1)))

/-- The chosen codes, of the encodings `N`. -/
def chosen (N : Vec F S65536x1024 .f32) (E : Vec F S1024x32 .f32) : Vec F S32x2048x32 .f32 :=
  shapeCast S32x2048x32 (Host.dotGeneral dot_S65536x1024_S1024x32_S65536x32_1_0_0_1_n_n none N E) shapeCasts_S65536x32_S32x2048x32

/-- The mean squared difference of the chosen codes `Q` and the inputs `Y`. -/
def meanSq (Q Y : Vec F S32x2048x32 .f32) : Vec F S_ .f32 :=
  Host.divf
    (Host.reduceAdd (mulf (subf Q Y) (subf Q Y)) (constant S_ .f32 0x00000000#32) reducesTo_S32x2048x32_S_d0_1_2 h_S_)
    (constant S_ .f32 0x4A000000#32)

/-- The loss of the chosen codes `Q` at the inputs `Y`. -/
def lossOf (Q Y : Vec F S32x2048x32 .f32) : Vec F S1x1 .f32 :=
  shapeCast S1x1 (addf (meanSq Q Y) (mulf (constant S_ .f32 0x3E800000#32) (meanSq Q Y))) shapeCasts_S_S1x1

/-- The straight-through output of the chosen codes `Q` at the inputs `Y`. -/
def through (Q Y : Vec F S32x2048x32 .f32) : Vec F S32x32x2048 .f32 :=
  transpose S32x32x2048 [2, 0, 1] (addf Y (subf Q Y)) transposes_S32x2048x32_S32x32x2048_2_0_1

/-- The share of the rows that each code encodes, of the encodings `N`. -/
def share (N : Vec F S65536x1024 .f32) : Vec F S1024 .f32 :=
  Host.divf (Host.reduceAdd N (constant S_ .f32 0x00000000#32) reducesTo_S65536x1024_S1024_d0 h_S_)
    (broadcastInDim S1024 ![] bcast_S_S1024 (constant S_ .f32 0x47800000#32))

/-- The perplexity of the shares `p`. -/
def perpOf (p : Vec F S1024 .f32) : Vec F S1x1 .f32 :=
  shapeCast S1x1
    (Host.exp (Host.negf (Host.reduceAdd
      (mulf p (Host.log (addf p (broadcastInDim S1024 ![] bcast_S_S1024 (constant S_ .f32 0x2EDBE6FF#32)))))
      (constant S_ .f32 0x00000000#32) reducesTo_S1024_S_d0 h_S_)))
    shapeCasts_S_S1x1

/-- The encodings of the inputs `X` over the codes `E`. -/
def encs (X : Vec F S32x32x2048 .f32) (E : Vec F S1024x32 .f32) : Vec F S65536x1024 .f32 := oneHot (F := F) (nearest (dist X E))

/-- The chosen codes of the inputs `X` over the codes `E`. -/
def codes (X : Vec F S32x32x2048 .f32) (E : Vec F S1024x32 .f32) : Vec F S32x2048x32 .f32 := chosen (encs X E) E

/-- The code numbers as a column. -/
def column (A : Vec F S65536 .i32) : Vec F S65536x1 .i32 := broadcastInDim S65536x1 ![0] bcast_S65536_S65536x1_0 A

variable (m : (ℓ : Loc nD τ sig) → Buf (Elt F) ℓ) (ρ : Dev nD → PrngReg)

/-- The inputs array as launched. -/
abbrev inX (c : Dev nD) : Vec F S32x32x2048 .f32 := m ((c.tc : Thread nD τ).loc main_arg0)
/-- The codes as launched. -/
abbrev inE (c : Dev nD) : Vec F S1024x32 .f32 := m ((c.tc : Thread nD τ).loc main_arg1)

/-- The reference runs; its six results end as stated and its arguments end unchanged. -/
theorem run_main : θ_run defs (onTc (τ := τ) (main (F := F))) ⟨m, fun _ => 0, ρ⟩ (fun r => ∀ c : Dev nD,
      r.2.mem ((c.tc : Thread nD τ).loc main_v42) = lossOf (codes (inX m c) (inE m c)) (lastX (inX m c))
      ∧ r.2.mem ((c.tc : Thread nD τ).loc main_v43) = through (codes (inX m c) (inE m c)) (lastX (inX m c))
      ∧ r.2.mem ((c.tc : Thread nD τ).loc main_v44) = perpOf (share (encs (inX m c) (inE m c)))
      ∧ r.2.mem ((c.tc : Thread nD τ).loc main_v17) = encs (inX m c) (inE m c)
      ∧ r.2.mem ((c.tc : Thread nD τ).loc main_v15) = dist (inX m c) (inE m c)
      ∧ r.2.mem ((c.tc : Thread nD τ).loc main_v45) = column (F := F) (nearest (dist (inX m c) (inE m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_hlo _ _ (by
    intro d
    unfold main fn_argmin.body fn_one_hot.body
    simp only [bind_assoc, pure_bind]
    hlo_seq) (by decide) (by decide) (by simp)
      (by intro _ h; (repeat (cases h with | head => rfl | tail _ h => ?_)); exact nomatch h) _ _) ?_
  intro r hr c
  have hc := hr c
  clear hr
  and_intros
  all_goals run_conjunct
  all_goals clear hc r
  all_goals (try simp -implicitDefEqProofs only [TRef.ofBuf_toBuf, TRef.toBuf, TRef.ofBuf, cast_cast, cast_eq])
  all_goals rfl

/-- No semaphore is declared: the counters end at zero. -/
theorem sem_zero (r : MemSt nD τ sig (Elt F)) : r.sem = fun _ => 0 := sem_eq_zero_of_no_sems (by decide) r

/-- The frame: the reference runs, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run_main m ρ) fun r h => ⟨fun c => ⟨(h c).2.2.2.2.2.2.1, (h c).2.2.2.2.2.2.2⟩, sem_zero r.2⟩

end Cert.ReferenceIdeal.Hand

end
-- ==== Proof.Nearest.lean ====
/-
  The first of the least of 1024 values, and the two ways the programs find its number: the kernel takes the least value, marks
  where it is attained and takes the least marked number; the reference folds (value, number) pairs.
-/
module

public import proofs.«01_k».proof.Proof.RefRun
public import Idealize.ShloMosaic.Lib.Pipeline.ValueKit
public import Idealize.ShloMosaic.Lib.SortNet.Extract

@[expose] public section

set_option maxRecDepth 16384

noncomputable section

namespace Cert.Nearest

open Idealize.ShloMosaic

/-- `a` is the first place where `f` is least. -/
def IsFirst (f : Fin 1024 → EReal) (a : Fin 1024) : Prop := (∀ j, f a ≤ f j) ∧ ∀ j, j < a → f a < f j

/-- There is a first place where `f` is least. -/
theorem exists_isFirst (f : Fin 1024 → EReal) : ∃ a, IsFirst f a := by
  classical
  obtain ⟨z, _, hz⟩ := Finset.exists_min_image (Finset.univ : Finset (Fin 1024)) f ⟨0, Finset.mem_univ _⟩
  have hne : (Finset.univ.filter fun a => ∀ j, f a ≤ f j).Nonempty :=
    ⟨z, Finset.mem_filter.mpr ⟨Finset.mem_univ _, fun j => hz j (Finset.mem_univ _)⟩⟩
  refine ⟨_, (Finset.mem_filter.mp (Finset.min'_mem _ hne)).2, fun j hj => ?_⟩
  by_contra hle
  refine absurd (Finset.min'_le _ j (Finset.mem_filter.mpr ⟨Finset.mem_univ _, fun k => ?_⟩)) (not_le.mpr hj)
  exact (not_lt.mp hle).trans ((Finset.mem_filter.mp (Finset.min'_mem _ hne)).2 k)

/-- The first place where `f` is least. -/
def first (f : Fin 1024 → EReal) : Fin 1024 := (exists_isFirst f).choose

theorem first_spec (f : Fin 1024 → EReal) : IsFirst f (first f) := (exists_isFirst f).choose_spec

theorem first_le (f : Fin 1024 → EReal) (j : Fin 1024) : f (first f) ≤ f j := (first_spec f).1 j

/-- The least value, folded from the top, is the value at the first place. -/
theorem fold_min_eq (f : Fin 1024 → EReal) : Finset.fold min (⊤ : EReal) f Finset.univ = f (first f) := by
  refine le_antisymm ?_ ?_
  · exact (Finset.fold_min_le _).mpr (Or.inr ⟨first f, Finset.mem_univ _, le_rfl⟩)
  · exact (Finset.le_fold_min _).mpr ⟨le_top, fun j _ => first_le f j⟩

/-- A number under 2³¹ read signed is itself. -/
theorem toInt_ofNat (n : ℕ) (h : n < 2 ^ 31) : (BitVec.ofNat 32 n).toInt = n := by
  rw [BitVec.toInt_eq_toNat_cond, BitVec.toNat_ofNat]
  split <;> omega

/-- The least number, of those where the least value is attained, is the first place. -/
theorem fold_minsi_eq (f : Fin 1024 → EReal) (M : EReal) (hM : M = f (first f)) :
    Finset.fold IntOp.minsi (2147483647#32) (fun x : Fin 1024 => if f x = M then BitVec.ofNat 32 x.val else 1024#32) Finset.univ
      = BitVec.ofNat 32 (first f).val := by
  subst hM
  apply BitVec.eq_of_toInt_eq
  rw [← Finset.fold_hom (op' := min) (m := BitVec.toInt) (fun x y => SortNet.toInt_minsi x y), toInt_ofNat (first f).val (by omega)]
  have hat : ∀ x : Fin 1024, (if f x = f (first f) then BitVec.ofNat 32 x.val else 1024#32).toInt
      = if f x = f (first f) then (x.val : ℤ) else 1024 := fun x => by
    split
    · exact toInt_ofNat _ (by omega)
    · rfl
  refine le_antisymm ?_ ?_
  · refine (Finset.fold_min_le _).mpr (Or.inr ⟨first f, Finset.mem_univ _, ?_⟩)
    rw [hat, if_pos rfl]
  · refine (Finset.le_fold_min _).mpr ⟨?_, fun x _ => ?_⟩
    · rw [show (2147483647#32 : BitVec 32).toInt = 2147483647 from rfl]; omega
    · rw [hat]
      split
      · rename_i e
        have : ¬ x < first f := fun hlt => absurd ((first_spec f).2 x hlt) (by rw [e]; exact lt_irrefl _)
        have := not_lt.mp this
        exact_mod_cast this
      · omega

/-! ## The reference's fold -/

/-- One pair comes no later than another: its value is less, or the values are equal and its number is no greater. -/
def Le (p q : EReal × BitVec 32) : Prop := p.1 < q.1 ∨ (p.1 = q.1 ∧ p.2.toNat ≤ q.2.toNat)

theorem Le.refl (p : EReal × BitVec 32) : Le p p := Or.inr ⟨rfl, le_rfl⟩

theorem Le.trans {p q r : EReal × BitVec 32} (h : Le p q) (h' : Le q r) : Le p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- The reference's choice between two pairs. -/
abbrev pick : EReal × BitVec 32 → EReal × BitVec 32 → EReal × BitVec 32 :=
  Cert.ReferenceIdeal.reducer_argmin_f32_i32 (F := Ideal)

/-- Of two pairs with small numbers the choice is one of the two, and comes no later than either. -/
theorem pick_spec (p q : EReal × BitVec 32) (hp : p.2.toNat < 1024) (hq : q.2.toNat < 1024) :
    (pick p q = p ∨ pick p q = q) ∧ Le (pick p q) p ∧ Le (pick p q) q := by
  obtain ⟨a, i⟩ := p
  obtain ⟨b, j⟩ := q
  have hi : i.toInt = i.toNat := by
    rw [BitVec.toInt_eq_toNat_cond]; simp only at hp; rw [if_pos (by omega)]
  have hj : j.toInt = j.toNat := by
    rw [BitVec.toInt_eq_toNat_cond]; simp only at hq; rw [if_pos (by omega)]
  have hs : IntOp.cmpi .slt i j = if i.toNat < j.toNat then 1#1 else 0#1 := by
    show BitVec.ofBool (i.slt j) = _
    by_cases h : i.toNat < j.toNat
    · rw [if_pos h, show i.slt j = true from decide_eq_true (by rw [hi, hj]; exact_mod_cast h)]; rfl
    · rw [if_neg h, show i.slt j = false from decide_eq_false (by rw [hi, hj]; exact_mod_cast h)]; rfl
  have hf : pick (a, i) (b, j)
      = (Scalar.select (IntOp.ori (Ideal.cmp .olt a b) (Ideal.cmp .une a a)) a b,
         Scalar.select (IntOp.ori (IntOp.ori (Ideal.cmp .olt a b) (Ideal.cmp .une a a))
           (IntOp.andi (Ideal.cmp .oeq a b) (IntOp.cmpi .slt i j))) i j) := rfl
  have hne : Ideal.cmp .une a a = 0#1 := by simp [Ideal.cmp]
  rcases lt_trichotomy a b with h | h | h
  · have e : pick (a, i) (b, j) = (a, i) := by
      rw [hf, hne, show Ideal.cmp .olt a b = 1#1 by simp [Ideal.cmp, h], show Ideal.cmp .oeq a b = 0#1 by simp [Ideal.cmp, h.ne], hs]
      split <;> rfl
    rw [e]; exact ⟨Or.inl rfl, Le.refl _, Or.inl h⟩
  · subst h
    by_cases k : i.toNat < j.toNat
    · have e : pick (a, i) (a, j) = (a, i) := by
        rw [hf, hne, show Ideal.cmp .olt a a = 0#1 by simp [Ideal.cmp], show Ideal.cmp .oeq a a = 1#1 by simp [Ideal.cmp], hs, if_pos k]
        rfl
      rw [e]; exact ⟨Or.inl rfl, Le.refl _, Or.inr ⟨rfl, k.le⟩⟩
    · have e : pick (a, i) (a, j) = (a, j) := by
        rw [hf, hne, show Ideal.cmp .olt a a = 0#1 by simp [Ideal.cmp], show Ideal.cmp .oeq a a = 1#1 by simp [Ideal.cmp], hs, if_neg k]
        rfl
      rw [e]; exact ⟨Or.inr rfl, Or.inr ⟨rfl, not_lt.mp k⟩, Le.refl _⟩
  · have e : pick (a, i) (b, j) = (b, j) := by
      rw [hf, hne, show Ideal.cmp .olt a b = 0#1 by simp [Ideal.cmp, not_lt.mpr h.le], show Ideal.cmp .oeq a b = 0#1 by simp [Ideal.cmp, h.ne'], hs]
      split <;> rfl
    rw [e]; exact ⟨Or.inr rfl, Or.inl h, Le.refl _⟩

/-- Folding the choice over a list of pairs with small numbers ends at the start or at a pair of the list, no later than any. -/
theorem foldl_pick (l : List (EReal × BitVec 32)) (hl : ∀ q ∈ l, q.2.toNat < 1024) (p : EReal × BitVec 32) (hp : p.2.toNat < 1024) :
    (l.foldl pick p = p ∨ l.foldl pick p ∈ l) ∧ Le (l.foldl pick p) p ∧ ∀ q ∈ l, Le (l.foldl pick p) q := by
  induction l generalizing p with
  | nil => exact ⟨Or.inl rfl, Le.refl p, fun _ h => absurd h List.not_mem_nil⟩
  | cons a l ih =>
    have ha := hl a List.mem_cons_self
    obtain ⟨hm, h1, h2⟩ := pick_spec p a hp ha
    have hpa : (pick p a).2.toNat < 1024 := by rcases hm with e | e <;> rw [e] <;> assumption
    obtain ⟨km, k1, k2⟩ := ih (fun q hq => hl q (List.mem_cons_of_mem _ hq)) (pick p a) hpa
    rw [List.foldl_cons]
    refine ⟨?_, k1.trans h1, fun q hq => ?_⟩
    · rcases km with e | e
      · rcases hm with e' | e'
        · exact Or.inl (e.trans e')
        · exact Or.inr (by rw [e, e']; exact List.mem_cons_self)
      · exact Or.inr (List.mem_cons_of_mem _ e)
    · rcases List.mem_cons.mp hq with rfl | hq
      · exact k1.trans h2
      · exact k2 q hq

/-- Folded over all 1024 pairs from (the top, 0), the choice's number is the first place. -/
theorem foldl_pick_first (f : Fin 1024 → EReal) (l : List (EReal × BitVec 32))
    (hl : ∀ q, q ∈ l ↔ ∃ j : Fin 1024, q = (f j, BitVec.ofNat 32 j.val)) :
    (l.foldl pick (⊤, 0#32)).2 = BitVec.ofNat 32 (first f).val := by
  have hn : ∀ j : Fin 1024, (BitVec.ofNat 32 j.val).toNat = j.val := fun j => by
    rw [BitVec.toNat_ofNat, Nat.mod_eq_of_lt (by omega)]
  obtain ⟨hm, h1, h2⟩ := foldl_pick l (fun q hq => by
    obtain ⟨j, rfl⟩ := (hl q).mp hq
    rw [hn]; exact j.isLt) (⊤, 0#32) (by decide)
  have hle := h2 _ ((hl _).mpr ⟨first f, rfl⟩)
  rcases hm with e | e
  · rw [e] at hle ⊢
    have htop : f (first f) = ⊤ := by
      rcases hle with h | ⟨h, _⟩
      · exact absurd h not_top_lt
      · exact h.symm
    have h0 : (first f).val = 0 := by
      by_contra hne
      have := (first_spec f).2 0 (Fin.lt_def.mpr (Nat.pos_of_ne_zero hne))
      rw [htop] at this
      exact absurd this not_top_lt
    rw [h0]
  · obtain ⟨j, hj⟩ := (hl _).mp e
    rw [hj] at hle ⊢
    have hmin := first_le f j
    rcases hle with h | ⟨h, k⟩
    · exact absurd h (not_lt.mpr hmin)
    · simp only [hn] at k h
      have : ¬ j < first f := fun hlt => absurd ((first_spec f).2 j hlt) (by rw [h]; exact lt_irrefl _)
      have : j = first f := le_antisymm (Fin.le_def.mpr k) (not_lt.mp this)
      rw [this]

/-- The pairs folded at `j` are those of the indices that reduce into `j`. -/
theorem mem_fiber {s t : Shape} {axes : List (Fin s.rank)} {α β : Type} (x : s.Idx → α) (y : s.Idx → β) (h : s.ReducesTo axes t)
    (j : t.Idx) (q : α × β) : q ∈ Host.argReduceFiber x y h j ↔ ∃ i, h.drop i = j ∧ q = (x i, y i) := by
  unfold Host.argReduceFiber
  constructor
  · intro hq
    obtain ⟨p, hp, rfl⟩ := List.mem_map.mp hq
    exact ⟨_, of_decide_eq_true (List.mem_filter.mp hp).2, rfl⟩
  · rintro ⟨i, hi, rfl⟩
    refine List.mem_map.mpr ⟨s.rowMajor i, List.mem_filter.mpr ⟨List.mem_finRange _, ?_⟩, ?_⟩
    · exact decide_eq_true (by rw [Equiv.symm_apply_apply]; exact hi)
    · rw [Equiv.symm_apply_apply]

/-- The word of the fold's first value is the top. -/
theorem top_word : Ideal.ofBits .f32 0x7F800000#32 = ⊤ := by simp [Ideal.ofBits, Ideal.ieee]

open Cert.ReferenceIdeal Cert.ReferenceIdeal.Facts₀ in
/-- An index reduces into row `n` when its first coordinate is `n`. -/
theorem drop_iff (n : Fin 65536) (i : S65536x1024.Idx) : reducesTo_S65536x1024_S65536_d1.drop i = ix1 n ↔ i 0 = n := by
  have hv : (reducesTo_S65536x1024_S65536_d1.drop i 0 : Nat) = i 0 :=
    Shape.ReducesTo.drop_apply_val_of_eq _ i 0 0
  constructor
  · intro h
    rw [h] at hv
    exact Fin.ext hv.symm
  · intro h
    funext b
    match b with
    | ⟨0, _⟩ => exact Fin.ext (hv.trans (congrArg Fin.val h))

/-- The numbers that a fold of (value, number) pairs ends at. -/
def numbers {s t u : Shape} {axes : List (Fin s.rank)} (f : EReal × BitVec 32 → EReal × BitVec 32 → EReal × BitVec 32)
    (x : FVec Ideal s .f32) (y : s.Idx → BitVec 32) (a : FVec Ideal u .f32) (b : u.Idx → BitVec 32) (h : s.ReducesTo axes t)
    (hu : 0 < u.numel) (j : t.Idx) : BitVec 32 :=
  (Host.argReduce (F := Ideal) (φ := .f32) f x y a b h hu j).2

/-- They are left folds over the pairs that reduce into `j`. -/
theorem numbers_eq {s t u : Shape} {axes : List (Fin s.rank)} (f : EReal × BitVec 32 → EReal × BitVec 32 → EReal × BitVec 32)
    (x : FVec Ideal s .f32) (y : s.Idx → BitVec 32) (a : FVec Ideal u .f32) (b : u.Idx → BitVec 32) (h : s.ReducesTo axes t)
    (hu : 0 < u.numel) (j : t.Idx) (p : EReal) (q : BitVec 32) (ha : a (Shape.Idx.first hu) = p) (hb : b (Shape.Idx.first hu) = q) :
    numbers f x y a b h hu j = ((Host.argReduceFiber x y h j).foldl f (p, q)).2 := by
  unfold numbers
  rw [Ideal.argReduce_eq_reduce2, Host.reduce2_eq_foldl_fiber, ha, hb]

open Cert.ReferenceIdeal Cert.ReferenceIdeal.Facts₀ in
/-- The reference's code numbers are those of its fold. -/
theorem nearest_numbers (D : Vec Ideal S65536x1024 .f32) :
    Cert.ReferenceIdeal.Hand.nearest (F := Ideal) D
      = numbers (reducer_argmin_f32_i32 (F := Ideal)) D (iotaInDim S65536x1024 32 1) (constant S_ .f32 0x7F800000#32)
          (constantI S_ 32 0#32) reducesTo_S65536x1024_S65536_d1 h_S_ := rfl

open Cert.ReferenceIdeal Cert.ReferenceIdeal.Facts₀ in
/-- The reference's code number of row `n` is the first place where the row's distances are least. -/
theorem nearest_at (D : Vec Ideal S65536x1024 .f32) (n : Fin 65536) :
    Cert.ReferenceIdeal.Hand.nearest (F := Ideal) D (ix1 n) = BitVec.ofNat 32 (first fun j => D (ix2 n j)).val := by
  rw [nearest_numbers, numbers_eq _ _ _ _ _ _ _ _ ⊤ 0#32 top_word rfl]
  refine foldl_pick_first (fun j => D (ix2 n j)) _ fun q => ?_
  refine (mem_fiber D (iotaInDim S65536x1024 32 1) reducesTo_S65536x1024_S65536_d1 (ix1 n) q).trans ?_
  constructor
  · rintro ⟨i, hi, rfl⟩
    have h0 := (drop_iff n i).mp hi
    refine ⟨i 1, Prod.ext (congrArg D ?_) rfl⟩
    funext a
    match a with
    | ⟨0, _⟩ => exact h0
    | ⟨1, _⟩ => rfl
  · rintro ⟨j, rfl⟩
    exact ⟨ix2 n j, (drop_iff n _).mpr rfl, rfl⟩

end Cert.Nearest

end
-- ==== Proof.Reads.lean ====
/-
  The kernel's payloads and the reference's operations over the extended reals, read element by element as sums of products.
-/
module

public import proofs.«01_k».proof.Proof.Arrays
public import proofs.«01_k».proof.Proof.Nearest

@[expose] public section

set_option maxRecDepth 16384

noncomputable section

namespace Cert.Reads

open Idealize.ShloMosaic
open Cert.KernelIdeal Cert.KernelIdeal.Gen
open Cert.Nearest (first fold_min_eq fold_minsi_eq top_word)

/-! ## Literals -/

theorem lit_neg_two : Ideal.ofBits .f32 3221225472#32 = ((-2 : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_count : Ideal.ofBits .f32 1241513984#32 = ((2097152 : ℝ) : EReal) := by
  simp [Ideal.ofBits, Ideal.ieee, -EReal.coe_mul]; norm_num
theorem lit_per_count : Ideal.ofBits .f32 0x35000000#32 = ((1 / 2097152 : ℝ) : EReal) := by
  simp [Ideal.ofBits, Ideal.ieee, -EReal.coe_mul]; norm_num
theorem lit_quarter : Ideal.ofBits .f32 1048576000#32 = ((1 / 4 : ℝ) : EReal) := by
  simp [Ideal.ofBits, Ideal.ieee, -EReal.coe_mul]; norm_num
theorem lit_five_quarters : Ideal.ofBits .f32 0x3FA00000#32 = ((5 / 4 : ℝ) : EReal) := by
  simp [Ideal.ofBits, Ideal.ieee, -EReal.coe_mul]; norm_num
theorem lit_rows : Ideal.ofBits .f32 1199570944#32 = ((65536 : ℝ) : EReal) := by
  simp [Ideal.ofBits, Ideal.ieee, -EReal.coe_mul]; norm_num
theorem lit_per_row : Ideal.ofBits .f32 931135488#32 = ((1 / 65536 : ℝ) : EReal) := by
  simp [Ideal.ofBits, Ideal.ieee, -EReal.coe_mul]; norm_num

/-! ## The kernel's payloads -/

section Kernel

variable (W : Vec Ideal S32x1x2048 .f32) (E : Vec Ideal S1024x32 .f32)

theorem pay12_at (b : Fin 2048) (j : Fin 1024) : k0_pay12 W E (ix2 b j)
    = ∑ k, W (ix3 k 0 b) * W (ix3 k 0 b) + ∑ k, E (ix2 j k) * E (ix2 j k) + ∑ k, W (ix3 k 0 b) * (Ideal.ofBits .f32 3221225472#32 * E (ix2 j k)) := by
  pointwise [k0_pay12]

/-- The number of row `b`'s nearest code. -/
def near (b : Fin 2048) : Fin 1024 := first fun j => k0_pay12 W E (ix2 b j)

/-- A row's least distance is that from its nearest code. -/
theorem pay13_at (b : Fin 2048) : k0_pay13 W E (ix2 b 0) = k0_pay12 W E (ix2 b (near W E b)) := by
  have h : k0_pay13 W E (ix2 b 0) = Finset.fold min (Ideal.ofBits .f32 2139095040#32) (fun x => k0_pay12 W E (ix2 b x)) Finset.univ := by
    pointwise [k0_pay13]
  rw [h, top_word]
  exact fold_min_eq _

/-- A row's code number is that of its nearest code. -/
theorem pay14_at (b : Fin 2048) : k0_pay14 W E (ix1 b) = BitVec.ofNat 32 (near W E b).val := by
  have h : k0_pay14 W E (ix1 b) = Finset.fold IntOp.minsi (2147483647#32)
      (fun x => if k0_pay12 W E (ix2 b x) = k0_pay13 W E (ix2 b 0) then BitVec.ofNat 32 x.val else 1024#32) Finset.univ := by
    pointwise [k0_pay14]
  rw [h]
  exact fold_minsi_eq _ _ (pay13_at W E b)

/-- Two code numbers' words are equal when the numbers are. -/
theorem word_eq (j a : Fin 1024) : (BitVec.ofNat 32 j.val = BitVec.ofNat 32 a.val) ↔ j = a := by
  constructor
  · intro h
    have := congrArg BitVec.toNat h
    simp only [BitVec.toNat_ofNat] at this
    apply Fin.ext
    omega
  · rintro rfl; rfl

theorem cmp_eq (j a : Fin 1024) : IntOp.cmpi .eq (BitVec.ofNat 32 j.val) (BitVec.ofNat 32 a.val) = if j = a then 1#1 else 0#1 := by
  show BitVec.ofBool (BitVec.ofNat 32 j.val == BitVec.ofNat 32 a.val) = _
  by_cases h : j = a
  · rw [if_pos h, h]; simp
  · rw [if_neg h, show (BitVec.ofNat 32 j.val == BitVec.ofNat 32 a.val) = false from beq_eq_false_iff_ne.mpr fun e => h ((word_eq j a).mp e)]; rfl

/-- A row's mark at a code: whether the code is the nearest. -/
theorem pay15_at (b : Fin 2048) (j : Fin 1024) : k0_pay15 W E (ix2 b j) = if j = near W E b then 1#1 else 0#1 := by
  have h : k0_pay15 W E (ix2 b j) = IntOp.cmpi .eq (BitVec.ofNat 32 j.val) (k0_pay14 W E (ix1 b)) := by
    pointwise [k0_pay15]
  rw [h, pay14_at, cmp_eq]

/-- A mark as a number. -/
theorem mark_num (p : Prop) [Decidable p] : FloatOps.sitofp (F := Ideal) .f32 (BitVec.setWidth 32 (if p then 1#1 else 0#1)) = if p then (1 : EReal) else 0 := by
  show (((BitVec.setWidth 32 (if p then 1#1 else 0#1)).toInt : ℝ) : EReal) = _
  split
  · rw [show (BitVec.setWidth 32 1#1).toInt = 1 from rfl]; simp
  · rw [show (BitVec.setWidth 32 0#1).toInt = 0 from rfl]; simp

/-- The encoding of row `b` at code `j`. -/
theorem enc_at (b : Fin 2048) (j : Fin 1024) :
    k0_pay1 (F := Ideal) (k0_pay15 W E) (ix2 b j) = if j = near W E b then (1 : EReal) else 0 := by
  have h : k0_pay1 (F := Ideal) (k0_pay15 W E) (ix2 b j) = FloatOps.sitofp (F := Ideal) .f32 (BitVec.setWidth 32 (k0_pay15 W E (ix2 b j))) := by
    pointwise [k0_pay1]
  rw [h, pay15_at, mark_num]

/-- The quantised value of row `b` in channel `k` is its nearest code's. -/
theorem quant_at (k : Fin 32) (b : Fin 2048) : k0_pay3 (F := Ideal) E (k0_pay15 W E) (ix3 k 0 b) = E (ix2 (near W E b) k) := by
  have h : k0_pay3 (F := Ideal) E (k0_pay15 W E) (ix3 k 0 b)
      = ∑ x, E (ix2 x k) * FloatOps.sitofp (F := Ideal) .f32 (BitVec.setWidth 32 (k0_pay15 W E (ix2 b x))) := by
    pointwise [k0_pay3, k0_pay1]
  rw [h]
  simp only [pay15_at, mark_num, mul_ite, mul_one, mul_zero, Finset.sum_ite_eq', Finset.mem_univ, if_true]

/-- The number of the block's rows that code `j` encodes. -/
theorem count_at (j : Fin 1024) : k0_pay4 (F := Ideal) (k0_pay15 W E) (ix2 0 j) = ∑ b, if j = near W E b then (1 : EReal) else 0 := by
  have h : k0_pay4 (F := Ideal) (k0_pay15 W E) (ix2 0 j)
      = ∑ x, FloatOps.sitofp (F := Ideal) .f32 (BitVec.setWidth 32 (k0_pay15 W E (ix2 x j))) := by
    pointwise [k0_pay4, k0_pay1]
  rw [h]
  simp only [pay15_at, mark_num]

theorem pay5_of (v : FVec Ideal S2048x1 .f32) : k0_pay5 v (ix2 0 0) = ∑ b, v (ix2 b 0) := by
  have h : k0_pay5 v (ix2 0 0) = ∑ x, ∑ x_1 : Fin 1, v (ix2 x 0) := by
    pointwise [k0_pay5]
  rw [h]
  refine Finset.sum_congr rfl fun b _ => ?_
  rw [Finset.univ_unique, Finset.sum_singleton]

/-- The sum of the block's least distances. -/
theorem sse_at : k0_pay5 (k0_pay13 W E) (ix2 0 0) = ∑ b, k0_pay12 W E (ix2 b (near W E b)) := by
  rw [pay5_of]
  exact Finset.sum_congr rfl fun b _ => pay13_at W E b

theorem pay6_of (v : FVec Ideal S2048x1 .f32) : k0_pay6 v (ix2 0 0) = k0_pay5 v (ix2 0 0) := by
  pointwise [k0_pay6]

theorem pay6_at : k0_pay6 (k0_pay13 W E) (ix2 0 0) = ∑ b, k0_pay12 W E (ix2 b (near W E b)) := by
  rw [← sse_at]
  exact pay6_of _

theorem pay8_at (A : Vec Ideal S1x1 .f32) : k0_pay8 (k0_pay13 W E) A (ix2 0 0) = A (ix2 0 0) + ∑ b, k0_pay12 W E (ix2 b (near W E b)) := by
  rw [← sse_at]
  pointwise [k0_pay8]

theorem pay7_at (j : Fin 1024) : k0_pay7 (F := Ideal) (k0_pay15 W E) (ix2 0 j) = ∑ b, if j = near W E b then (1 : EReal) else 0 := by
  rw [← count_at]
  pointwise [k0_pay7]

theorem pay9_at (C : Vec Ideal S1x1024 .f32) (j : Fin 1024) :
    k0_pay9 (k0_pay15 W E) C (ix2 0 j) = C (ix2 0 j) + ∑ b, if j = near W E b then (1 : EReal) else 0 := by
  rw [← count_at]
  pointwise [k0_pay9]

theorem pay2_at (b : Fin 2048) : k0_pay2 (k0_pay14 W E) (ix2 b 0) = BitVec.ofNat 32 (near W E b).val := by
  rw [← pay14_at]
  pointwise [k0_pay2]

/-- The loss of the summed least distances. -/
theorem pay10_at (A : Vec Ideal S1x1 .f32) :
    k0_pay10 A (ix2 0 0) = ((5 / 4 : ℝ) : EReal) * (A (ix2 0 0) * ((1 / 2097152 : ℝ) : EReal)) := by
  rw [← lit_per_count, ← lit_five_quarters]
  pointwise [k0_pay10]

/-- The perplexity of the counts. -/
theorem pay11_at (C : Vec Ideal S1x1024 .f32) : k0_pay11 C (ix2 0 0)
    = Ideal.exp (-∑ j, C (ix2 0 j) * ((1 / 65536 : ℝ) : EReal) * Ideal.log (C (ix2 0 j) * ((1 / 65536 : ℝ) : EReal) + Ideal.ofBits .f32 786163455#32)) := by
  rw [← lit_per_row]
  have h : k0_pay11 C (ix2 0 0) = Scalar.exp (F := Ideal) (φ := .f32) (0 - ∑ x : Fin 1, ∑ j, C (ix2 0 j) * Ideal.ofBits .f32 931135488#32
      * Ideal.log (C (ix2 0 j) * Ideal.ofBits .f32 931135488#32 + Ideal.ofBits .f32 786163455#32)) := by
    pointwise [k0_pay11]
  rw [h, zero_sub, Finset.univ_unique, Finset.sum_singleton]
  rfl

end Kernel

/-! ## The reference's operations -/

section Reference

open Cert.ReferenceIdeal.Hand (nearest oneHot chosen meanSq lossOf through share perpOf encs codes column lastX flatX)

variable (X : Vec Ideal S32x32x2048 .f32) (E : Vec Ideal S1024x32 .f32)

theorem dist_at (n : Fin 65536) (j : Fin 1024) : Cert.ReferenceIdeal.Hand.dist X E (ix2 n j)
    = ∑ k, X (ix3 k ⟨n.val / 2048, by omega⟩ ⟨n.val % 2048, by omega⟩) * X (ix3 k ⟨n.val / 2048, by omega⟩ ⟨n.val % 2048, by omega⟩)
      + ∑ k, E (ix2 j k) * E (ix2 j k)
      - Ideal.ofBits .f32 1073741824#32 * ∑ k, X (ix3 k ⟨n.val / 2048, by omega⟩ ⟨n.val % 2048, by omega⟩) * E (ix2 j k) := by
  pointwise [Cert.ReferenceIdeal.Hand.dist, flatX, lastX]

theorem oneHot_at (A : Vec Ideal Cert.ReferenceIdeal.S65536 .i32) (n : Fin 65536) (j a : Fin 1024)
    (ha : A (ix1 n) = BitVec.ofNat 32 a.val) : oneHot (F := Ideal) A (ix2 n j) = if j = a then (1 : EReal) else 0 := by
  have h : oneHot (F := Ideal) A (ix2 n j) = FloatOps.uitofp (F := Ideal) .f32 (IntOp.cmpi .eq (A (ix1 n)) (BitVec.ofNat 32 j.val)) := by
    pointwise [oneHot]
  rw [h, ha, cmp_eq]
  show (((if a = j then 1#1 else 0#1 : BitVec 1).toNat : ℝ) : EReal) = _
  by_cases e : a = j
  · rw [if_pos e, if_pos e.symm]; simp
  · rw [if_neg e, if_neg fun e' => e e'.symm]; simp

theorem chosen_at (N : Vec Ideal Cert.ReferenceIdeal.S65536x1024 .f32) (t : Fin 32) (b : Fin 2048) (k : Fin 32) :
    chosen (F := Ideal) N E (ix3 t b k) = ∑ j, N (ix2 ⟨t.val * 2048 + b.val, by omega⟩ j) * E (ix2 j k) := by
  pointwise [chosen]

theorem through_at (Q Y : Vec Ideal Cert.ReferenceIdeal.S32x2048x32 .f32) (k : Fin 32) (t : Fin 32) (b : Fin 2048) :
    through (F := Ideal) Q Y (ix3 k t b) = Y (ix3 t b k) + (Q (ix3 t b k) - Y (ix3 t b k)) := by
  pointwise [through]

theorem lastX_at (k : Fin 32) (t : Fin 32) (b : Fin 2048) : lastX X (ix3 t b k) = X (ix3 k t b) := by
  pointwise [lastX]

theorem lossOf_at (Q Y : Vec Ideal Cert.ReferenceIdeal.S32x2048x32 .f32) : lossOf (F := Ideal) Q Y (ix2 0 0)
    = Ideal.div (∑ t, ∑ b, ∑ k, (Q (ix3 t b k) - Y (ix3 t b k)) * (Q (ix3 t b k) - Y (ix3 t b k))) (Ideal.ofBits .f32 1241513984#32)
      + Ideal.ofBits .f32 1048576000#32
        * Ideal.div (∑ t, ∑ b, ∑ k, (Q (ix3 t b k) - Y (ix3 t b k)) * (Q (ix3 t b k) - Y (ix3 t b k))) (Ideal.ofBits .f32 1241513984#32) := by
  pointwise [lossOf, meanSq]

theorem share_at (N : Vec Ideal Cert.ReferenceIdeal.S65536x1024 .f32) (j : Fin 1024) :
    share (F := Ideal) N (ix1 j) = Ideal.div (∑ n, N (ix2 n j)) (Ideal.ofBits .f32 1199570944#32) := by
  pointwise [share]

theorem perpOf_at (p : Vec Ideal Cert.ReferenceIdeal.S1024 .f32) : perpOf (F := Ideal) p (ix2 0 0)
    = Ideal.exp (-∑ j, p (ix1 j) * Ideal.log (p (ix1 j) + Ideal.ofBits .f32 786163455#32)) := by
  pointwise [perpOf]

theorem column_at (A : Vec Ideal Cert.ReferenceIdeal.S65536 .i32) (n : Fin 65536) : column (F := Ideal) A (ix2 n 0) = A (ix1 n) := by
  pointwise [column]

end Reference

end Cert.Reads

end
-- ==== Proof.Values.lean ====
/-
  The six results: over the extended reals, for finite inputs and codes, what the kernel leaves in each result array is what the
  reference computes.
-/
module

public import proofs.«01_k».proof.Proof.Reads

@[expose] public section

set_option maxRecDepth 16384

noncomputable section

namespace Cert.Values

open Idealize.ShloMosaic
open Cert.KernelIdeal Cert.KernelIdeal.Gen Cert.Reads
open Cert.KernelIdeal.Hand (xat ptOf inPt distG encG quantG idxG accN cntN accNext cntNext accN_succ cntN_succ xrow_eq cbk_eq coords_val)
open Cert.Nearest (first nearest_at)

/-- A two-axis index is its coordinates. -/
theorem eq_ix2 {a b : ℕ} (i : (⟨2, ![a, b]⟩ : Shape).Idx) : ∃ p q, i = ix2 p q :=
  ⟨i 0, i 1, by funext k; match k with | ⟨0, _⟩ => rfl | ⟨1, _⟩ => rfl⟩

/-- A three-axis index is its coordinates. -/
theorem eq_ix3 {a b c : ℕ} (i : (⟨3, ![a, b, c]⟩ : Shape).Idx) : ∃ p q r, i = ix3 p q r :=
  ⟨i 0, i 1, i 2, by funext k; match k with | ⟨0, _⟩ => rfl | ⟨1, _⟩ => rfl | ⟨2, _⟩ => rfl⟩

/-- A finite sum of reals, as an extended real. -/
theorem coe_sum {n : ℕ} (f : Fin n → ℝ) : ((∑ i, f i : ℝ) : EReal) = ∑ i, (f i : EReal) :=
  map_sum (⟨⟨(↑), EReal.coe_zero⟩, EReal.coe_add⟩ : ℝ →+ EReal) f Finset.univ

section Rows

variable (x : Fin 32 → Fin 32 → Fin 2048 → ℝ) (e : Fin 1024 → Fin 32 → ℝ)

/-- The squared distance of row `b` of block `t` from code `j`. -/
def sq (t : Fin 32) (b : Fin 2048) (j : Fin 1024) : ℝ := ∑ k, (x k t b - e j k) * (x k t b - e j k)

variable (X : Vec Ideal S32x32x2048 .f32) (E : Vec Ideal S1024x32 .f32)
variable (hX : ∀ k t b, X (ix3 k t b) = ((x k t b : ℝ) : EReal)) (hE : ∀ j k, E (ix2 j k) = ((e j k : ℝ) : EReal))

include hX hE

/-- The kernel's distance is the squared distance. -/
theorem kernel_sq (t : Fin 32) (b : Fin 2048) (j : Fin 1024) : k0_pay12 (xat X t) E (ix2 b j) = ((sq x e t b j : ℝ) : EReal) := by
  have hW : ∀ k, xat X t (ix3 k 0 b) = ((x k t b : ℝ) : EReal) := fun k => hX k t b
  rw [pay12_at, lit_neg_two]
  simp only [hW, hE, ← EReal.coe_mul, ← coe_sum, ← EReal.coe_add]
  congr 1
  unfold sq
  rw [← Finset.sum_add_distrib, ← Finset.sum_add_distrib]
  exact Finset.sum_congr rfl fun k _ => by ring

/-- The reference's distance is the squared distance. -/
theorem reference_sq (n : Fin 65536) (j : Fin 1024) :
    Cert.ReferenceIdeal.Hand.dist X E (ix2 n j) = ((sq x e (ptOf n) (inPt n) j : ℝ) : EReal) := by
  rw [dist_at, lit_two]
  simp only [hX, hE, ← EReal.coe_mul, ← coe_sum, ← EReal.coe_add, ← EReal.coe_sub]
  congr 1
  unfold sq
  rw [Finset.mul_sum, ← Finset.sum_add_distrib, ← Finset.sum_sub_distrib]
  exact Finset.sum_congr rfl fun k _ => by ring

/-- The distances agree, element by element. -/
theorem dist_eq_at (n : Fin 65536) (j : Fin 1024) :
    Cert.ReferenceIdeal.Hand.dist X E (ix2 n j) = k0_pay12 (xat X (ptOf n)) E (ix2 (inPt n) j) :=
  (reference_sq x e X E hX hE n j).trans (kernel_sq x e X E hX hE _ _ j).symm

/-- The distances agree. -/
theorem dist_eq : distG X E = Cert.ReferenceIdeal.Hand.dist X E := by
  funext i
  obtain ⟨n, j, rfl⟩ := eq_ix2 i
  exact (dist_eq_at x e X E hX hE n j).symm

/-- The reference's code number of row `n` is the kernel's nearest code. -/
theorem nearest_eq (n : Fin 65536) : Cert.ReferenceIdeal.Hand.nearest (F := Ideal) (Cert.ReferenceIdeal.Hand.dist X E) (ix1 n)
    = BitVec.ofNat 32 (near (xat X (ptOf n)) E (inPt n)).val := by
  rw [nearest_at]
  unfold near
  simp only [dist_eq_at x e X E hX hE]

/-- The code numbers agree. -/
theorem idx_eq : idxG X E = Cert.ReferenceIdeal.Hand.column (F := Ideal) (Cert.ReferenceIdeal.Hand.nearest (Cert.ReferenceIdeal.Hand.dist X E)) := by
  funext i
  obtain ⟨n, z, rfl⟩ := eq_ix2 i
  obtain rfl : z = 0 := Subsingleton.elim _ _
  rw [column_at, nearest_eq x e X E hX hE]
  exact pay2_at (xat X (ptOf n)) E (inPt n)

/-- The reference's encodings, element by element. -/
theorem encs_at (n : Fin 65536) (j : Fin 1024) : Cert.ReferenceIdeal.Hand.encs X E (ix2 n j)
    = if j = near (xat X (ptOf n)) E (inPt n) then (1 : EReal) else 0 :=
  oneHot_at _ n j _ (nearest_eq x e X E hX hE n)

/-- The encodings agree. -/
theorem enc_eq : encG X E = Cert.ReferenceIdeal.Hand.encs X E := by
  funext i
  obtain ⟨n, j, rfl⟩ := eq_ix2 i
  rw [encs_at x e X E hX hE]
  exact enc_at (xat X (ptOf n)) E (inPt n) j

/-- The reference's chosen code of row `b` of block `t` is the kernel's nearest code. -/
theorem codes_at (t : Fin 32) (b : Fin 2048) (k : Fin 32) :
    Cert.ReferenceIdeal.Hand.codes X E (ix3 t b k) = ((e (near (xat X t) E b) k : ℝ) : EReal) := by
  unfold Cert.ReferenceIdeal.Hand.codes
  rw [chosen_at]
  have hp : ptOf ⟨t.val * 2048 + b.val, by omega⟩ = t := Fin.ext (by show (t.val * 2048 + b.val) / 2048 = t.val; omega)
  have hq : inPt ⟨t.val * 2048 + b.val, by omega⟩ = b := Fin.ext (by show (t.val * 2048 + b.val) % 2048 = b.val; omega)
  simp only [encs_at x e X E hX hE, hp, hq, ite_mul, one_mul, zero_mul, Finset.sum_ite_eq', Finset.mem_univ, if_true]
  exact hE _ _

/-- The quantised values agree. -/
theorem quant_eq : quantG X E = Cert.ReferenceIdeal.Hand.through (Cert.ReferenceIdeal.Hand.codes X E) (Cert.ReferenceIdeal.Hand.lastX X) := by
  funext i
  obtain ⟨k, t, b, rfl⟩ := eq_ix3 i
  rw [through_at, lastX_at, codes_at x e X E hX hE, hX, ← EReal.coe_sub, ← EReal.coe_add, add_sub_cancel, ← hE]
  exact quant_at (xat X t) E k b

/-- The sum of all the rows' squared distances from their nearest codes. -/
def total : ℝ := ∑ t, ∑ b, sq x e t b (near (xat X t) E b)

omit hX hE in
/-- The loss of a kernel's accumulated sum. -/
theorem loss_of (S : ℝ) (A : Vec Ideal S1x1 .f32) (hA : A (ix2 0 0) = (S : EReal)) :
    k0_pay10 A (ix2 0 0) = ((5 / 4 * (S * (1 / 2097152)) : ℝ) : EReal) := by
  rw [pay10_at, hA, ← EReal.coe_mul, ← EReal.coe_mul]

/-- The loss agrees, of an accumulator that holds the sum of the least distances. -/
theorem loss_eq (A : Vec Ideal S1x1 .f32) (hA : A (ix2 0 0) = ∑ t, ∑ b, k0_pay12 (xat X t) E (ix2 b (near (xat X t) E b))) :
    k0_pay10 A = Cert.ReferenceIdeal.Hand.lossOf (Cert.ReferenceIdeal.Hand.codes X E) (Cert.ReferenceIdeal.Hand.lastX X) := by
  funext i
  obtain rfl : i = ix2 0 0 := Subsingleton.elim (α := S1x1.Idx) _ _
  have hS : A (ix2 0 0) = ((total x e X E : ℝ) : EReal) := by
    rw [hA]
    simp only [kernel_sq x e X E hX hE, ← coe_sum]
    rfl
  have hR : ∑ t, ∑ b, ∑ k, (Cert.ReferenceIdeal.Hand.codes X E (ix3 t b k) - Cert.ReferenceIdeal.Hand.lastX X (ix3 t b k))
      * (Cert.ReferenceIdeal.Hand.codes X E (ix3 t b k) - Cert.ReferenceIdeal.Hand.lastX X (ix3 t b k)) = ((total x e X E : ℝ) : EReal) := by
    simp only [codes_at x e X E hX hE, lastX_at, hX, ← EReal.coe_sub, ← EReal.coe_mul, ← coe_sum]
    congr 1
    unfold total sq
    refine Finset.sum_congr rfl fun t _ => Finset.sum_congr rfl fun b _ => Finset.sum_congr rfl fun k _ => ?_
    ring
  rw [loss_of _ A hS, lossOf_at, hR, lit_count, lit_quarter, Ideal.div_coe (by norm_num), ← EReal.coe_mul, ← EReal.coe_mul, ← EReal.coe_add]
  congr 1
  ring

/-- The perplexity agrees, of counts that hold the number of rows that each code encodes. -/
theorem perp_eq (C : Vec Ideal S1x1024 .f32)
    (hC : ∀ j, C (ix2 0 j) = ∑ t, ∑ b, if j = near (xat X t) E b then (1 : EReal) else 0) :
    k0_pay11 C = Cert.ReferenceIdeal.Hand.perpOf (Cert.ReferenceIdeal.Hand.share (Cert.ReferenceIdeal.Hand.encs X E)) := by
  funext i
  obtain rfl : i = ix2 0 0 := Subsingleton.elim (α := S1x1.Idx) _ _
  have hN : ∀ j, ∑ n, Cert.ReferenceIdeal.Hand.encs X E (ix2 n j) = C (ix2 0 j) := fun j => by
    rw [hC]
    simp only [encs_at x e X E hX hE]
    rw [← Fintype.sum_prod_type' (f := fun t b => if j = near (xat X t) E b then (1 : EReal) else 0)]
    refine (Fintype.sum_equiv (finProdFinEquiv (m := 32) (n := 2048)) _ _ fun p => ?_).symm
    have hp : ptOf (finProdFinEquiv p) = p.1 := Fin.ext (by
      show (p.2.val + 2048 * p.1.val) / 2048 = p.1.val; omega)
    have hq : inPt (finProdFinEquiv p) = p.2 := Fin.ext (by
      show (p.2.val + 2048 * p.1.val) % 2048 = p.2.val; omega)
    rw [hp, hq]
  rw [pay11_at, perpOf_at]
  simp only [share_at, hN, lit_rows, Ideal.div_coe (show (65536 : ℝ) ≠ 0 by norm_num)]

end Rows

/-! ## The accumulators -/

section Accumulators

variable (m : (ℓ : Loc nD τ sig) → Buf (Elt Ideal) ℓ) (c : Dev nD)

/-- What block `t` adds to the summed distances. -/
def lossPart (t : ℕ) : EReal := if h : t < 32 then
  ∑ b, k0_pay12 (xat (Cert.KernelIdeal.Hand.inX m c) ⟨t, h⟩) (Cert.KernelIdeal.Hand.inE m c)
    (ix2 b (near (xat (Cert.KernelIdeal.Hand.inX m c) ⟨t, h⟩) (Cert.KernelIdeal.Hand.inE m c) b)) else 0

/-- What block `t` adds to code `j`'s count. -/
def countPart (j : Fin 1024) (t : ℕ) : EReal := if h : t < 32 then
  ∑ b, if j = near (xat (Cert.KernelIdeal.Hand.inX m c) ⟨t, h⟩) (Cert.KernelIdeal.Hand.inE m c) b then (1 : EReal) else 0 else 0

/-- After `n + 1` points the accumulator holds the parts of the blocks so far. -/
theorem accN_at (n : ℕ) (hn : n < 32) : accN m c (n + 1) (ix2 0 0) = ∑ t ∈ Finset.range (n + 1), lossPart m c t := by
  induction n with
  | zero =>
    have hs := accN_succ m c ⟨0, lt_of_lt_of_eq hn N_0.symm⟩
    rw [xrow_eq, cbk_eq] at hs
    rw [hs, Finset.sum_range_one]
    unfold accNext lossPart
    rw [if_pos (coords_val _), dif_pos hn]
    exact pay6_at _ _
  | succ n ih =>
    have hs := accN_succ m c ⟨n + 1, lt_of_lt_of_eq hn N_0.symm⟩
    rw [xrow_eq, cbk_eq] at hs
    rw [Finset.sum_range_succ, ← ih (by omega), hs]
    unfold accNext lossPart
    rw [if_neg (by rw [coords_val]; exact Nat.succ_ne_zero n), dif_pos hn]
    exact pay8_at _ _ _

/-- After `n + 1` points the counts hold the parts of the blocks so far. -/
theorem cntN_at (j : Fin 1024) (n : ℕ) (hn : n < 32) : cntN m c (n + 1) (ix2 0 j) = ∑ t ∈ Finset.range (n + 1), countPart m c j t := by
  induction n with
  | zero =>
    have hs := cntN_succ m c ⟨0, lt_of_lt_of_eq hn N_0.symm⟩
    rw [xrow_eq, cbk_eq] at hs
    rw [hs, Finset.sum_range_one]
    unfold cntNext countPart
    rw [if_pos (coords_val _), dif_pos hn]
    exact pay7_at _ _ _
  | succ n ih =>
    have hs := cntN_succ m c ⟨n + 1, lt_of_lt_of_eq hn N_0.symm⟩
    rw [xrow_eq, cbk_eq] at hs
    rw [Finset.sum_range_succ, ← ih (by omega), hs]
    unfold cntNext countPart
    rw [if_neg (by rw [coords_val]; exact Nat.succ_ne_zero n), dif_pos hn]
    exact pay9_at _ _ _ _

/-- At the end the accumulator holds the sum of all the least distances. -/
theorem acc_total : accN m c 32 (ix2 0 0) = ∑ t, ∑ b, k0_pay12 (xat (Cert.KernelIdeal.Hand.inX m c) t) (Cert.KernelIdeal.Hand.inE m c)
    (ix2 b (near (xat (Cert.KernelIdeal.Hand.inX m c) t) (Cert.KernelIdeal.Hand.inE m c) b)) := by
  rw [accN_at m c 31 (by omega), Finset.sum_range]
  exact Finset.sum_congr rfl fun t _ => dif_pos t.isLt

/-- At the end the counts hold the number of rows that each code encodes. -/
theorem cnt_total (j : Fin 1024) : cntN m c 32 (ix2 0 j)
    = ∑ t, ∑ b, if j = near (xat (Cert.KernelIdeal.Hand.inX m c) t) (Cert.KernelIdeal.Hand.inE m c) b then (1 : EReal) else 0 := by
  rw [cntN_at m c j 31 (by omega), Finset.sum_range]
  exact Finset.sum_congr rfl fun t _ => dif_pos t.isLt

end Accumulators

end Cert.Values

end
-- ==== Proof.Finite.lean ====
/-
  What the precondition says: every element of the inputs and of the codes is a real.
-/
module

public import proofs.«01_k».proof.Defs
public import proofs.«01_k».proof.Proof.Gen.Pre_finite
public import Idealize.ShloMosaic.Lib.ReduceAll
public import Idealize.ShloMosaic.Lib.Pipeline.ValueKit

@[expose] public section

set_option maxRecDepth 16384

noncomputable section

namespace Cert.Finite

open Idealize.ShloMosaic Cert.Pre_finite Cert.Pre_finite.Facts

/-- A value whose magnitude compares below the top is a real. -/
theorem real_of_lt (a : EReal) (h : Ideal.cmp .olt (max a (-a)) (Ideal.ofBits .f32 0x7F800000#32) = 1#1) : ∃ r : ℝ, a = (r : EReal) := by
  rw [show Ideal.ofBits .f32 0x7F800000#32 = (⊤ : EReal) by simp [Ideal.ofBits, Ideal.ieee]] at h
  have hlt : max a (-a) < ⊤ := by
    by_contra hn
    simp [Ideal.cmp, hn] at h
  induction a using EReal.rec with
  | bot => simp at hlt
  | coe r => exact ⟨r, rfl⟩
  | top => simp at hlt

instance : Subsingleton S_.Idx := ⟨fun a b => funext fun k => k.elim0⟩

/-- Both bits of a conjunction that is one are one. -/
theorem both_one (a b : BitVec 1) (h : IntOp.andi a b = 1#1) : a = 1#1 ∧ b = 1#1 := by
  revert a b; decide

/-- Under the precondition every element is a real. -/
theorem reals (X : FVec Ideal S32x32x2048 .f32) (E : FVec Ideal S1024x32 .f32) (h : fn (F := Ideal) X E = fun _ => 1#1) :
    (∀ i, ∃ r : ℝ, (X i : EReal) = (r : EReal)) ∧ ∀ i, ∃ r : ℝ, (E i : EReal) = (r : EReal) := by
  have h0 := congrFun h (fun k => k.elim0)
  obtain ⟨hx, he⟩ := both_one _ _ h0
  exact ⟨fun i => real_of_lt _ (Host.reduce_andi_all _ _ reducesTo_S32x32x2048_S_d0_1_2 h_S_ _ hx i),
    fun i => real_of_lt _ (Host.reduce_andi_all _ _ reducesTo_S1024x32_S_d0_1 h_S_ _ he i)⟩

end Cert.Finite

end
-- ==== Proof.lean ====
/-
  The proof of the seven claims: the frames, the idealisation, and that kernel and reference compute the same six results.
-/
module

public import proofs.«01_k».proof.Proof.KernelFrame
public import proofs.«01_k».proof.Proof.Values
public import proofs.«01_k».proof.Proof.Finite
public import Idealize.ShloMosaic.Adequacy
public import Idealize.ShloMosaic.Init

@[expose] public section

noncomputable section

namespace Cert.Proof

open Idealize.ShloMosaic Idealize.SL.Sem
open Cert.KernelIdeal.Gen (k0_pay10 k0_pay11)
open Cert.KernelIdeal.Hand (accN cntN quantG encG distG idxG inX inE run_main post_results post_args)
open Cert.Values

/-- From memories that agree on finite arguments, kernel and reference end with the same six results. -/
theorem same_results : algebraic_KernelIdeal_ReferenceIdeal_pre_finite := by
  intro m g m' g' hpre hagree
  have hreal := fun c => Cert.Finite.reals _ _ (hpre c)
  choose x hx using fun c k t b => (hreal c).1 (ix3 k t b)
  choose e he using fun c j k => (hreal c).2 (ix2 j k)
  refine ⟨fun c => k0_pay10 (accN m c 32), fun c => quantG (inX m c) (inE m c), fun c => k0_pay11 (cntN m c 32),
    fun c => encG (inX m c) (inE m c), fun c => distG (inX m c) (inE m c), fun c => idxG (inX m c) (inE m c), ?_, ?_⟩
  · refine θ_run_mono (run_main m g) fun r hr c => ?_
    obtain ⟨h0, h1, h2, h3, h4, h5⟩ := post_results m hr.1 c
    exact ⟨h4, h2, h5, h1, h0, h3, post_args m hr.1 c⟩
  · refine θ_run_mono (Cert.ReferenceIdeal.Hand.run_main m' g') fun r hr c => ?_
    obtain ⟨h0, h1, h2, h3, h4, h5, h6, h7⟩ := hr c
    have hX : Cert.ReferenceIdeal.Hand.inX m' c = inX m c := (hagree c).1
    have hE : Cert.ReferenceIdeal.Hand.inE m' c = inE m c := (hagree c).2
    rw [hX, hE] at h0 h1 h2 h3 h4 h5
    have kX := hx c
    have kE := he c
    refine ⟨h0.trans ?_, h1.trans ?_, h2.trans ?_, h3.trans ?_, h4.trans ?_, h5.trans ?_, h6, h7⟩
    · exact (loss_eq (x c) (e c) _ _ kX kE _ (acc_total m c)).symm
    · exact (quant_eq (x c) (e c) _ _ kX kE).symm
    · exact (perp_eq (x c) (e c) _ _ kX kE _ (cnt_total m c)).symm
    · exact (enc_eq (x c) (e c) _ _ kX kE).symm
    · exact (dist_eq (x c) (e c) _ _ kX kE).symm
    · exact (idx_eq (x c) (e c) _ _ kX kE).symm

/-- All the claims. -/
theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    fun m g _ => Cert.ReferenceIdeal.Hand.frame m g,
    fun m g _ => Cert.ReferenceIdeal.Hand.frame m g,
    trivial,
    same_results⟩

end Cert.Proof

end
